-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_d" .f32 0x39E38E39#32 ((1 / 2304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x2304 : Shape := ⟨3, ![2, 1024, 2304]⟩
abbrev S2x1024 : Shape := ⟨2, ![2, 1024]⟩
abbrev S2304 : Shape := ⟨1, ![2304]⟩
abbrev S2304x4096 : Shape := ⟨2, ![2304, 4096]⟩
abbrev S4096 : Shape := ⟨1, ![4096]⟩
abbrev S2x1024x4096 : Shape := ⟨3, ![2, 1024, 4096]⟩
abbrev S2048x2304 : Shape := ⟨2, ![2048, 2304]⟩
abbrev S2048x4096 : Shape := ⟨2, ![2048, 4096]⟩
abbrev S1x2304 : Shape := ⟨2, ![1, 2304]⟩
abbrev S1x4096 : Shape := ⟨2, ![1, 4096]⟩
abbrev S2304x2048 : Shape := ⟨2, ![2304, 2048]⟩
abbrev S512x2304 : Shape := ⟨2, ![512, 2304]⟩
abbrev S512x4096 : Shape := ⟨2, ![512, 4096]⟩
abbrev S2304x512 : Shape := ⟨2, ![2304, 512]⟩
abbrev S1x512 : Shape := ⟨2, ![1, 512]⟩
abbrev S512x1 : Shape := ⟨2, ![512, 1]⟩
abbrev S512 : Shape := ⟨1, ![512]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 22
  | .vmem => 24
  | .smem => 0
  | _ => 0

abbrev bufTy : (tb : Table) → Fin (tcTables nBuf tb) → BufTy
  | .hbm, ⟨0, _⟩ => ⟨S2x1024x2304, .fp8e4m3⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2304, .f32⟩
  | .hbm, ⟨5, _⟩ => ⟨S2304, .f32⟩
  | .hbm, ⟨6, _⟩ => ⟨S2304x4096, .fp8e4m3⟩
  | .hbm, ⟨7, _⟩ => ⟨S4096, .f32⟩
  | .hbm, ⟨8, _⟩ => ⟨S2x1024x4096, .bf16⟩
  | .hbm, ⟨9, _⟩ => ⟨S2048x2304, .fp8e4m3⟩
  | .hbm, ⟨10, _⟩ => ⟨S2048x4096, .bf16⟩
  | .hbm, ⟨11, _⟩ => ⟨S1x2304, .f32⟩
  | .hbm, ⟨12, _⟩ => ⟨S1x2304, .f32⟩
  | .hbm, ⟨13, _⟩ => ⟨S1x4096, .f32⟩
  | .hbm, ⟨14, _⟩ => ⟨S2048x2304, .bf16⟩
  | .hbm, ⟨15, _⟩ => ⟨S2304x2048, .bf16⟩
  | .hbm, ⟨16, _⟩ => ⟨S1x2304, .f32⟩
  | .hbm, ⟨17, _⟩ => ⟨S1x2304, .f32⟩
  | .hbm, ⟨18, _⟩ => ⟨S2304x4096, .f32⟩
  | .hbm, ⟨19, _⟩ => ⟨S2x1024x2304, .bf16⟩
  | .hbm, ⟨20, _⟩ => ⟨S2304, .f32⟩
  | .hbm, ⟨21, _⟩ => ⟨S2304, .f32⟩
  | .local _ .vmem, ⟨0, _⟩ => ⟨S512x2304, .fp8e4m3⟩
  | .local _ .vmem, ⟨1, _⟩ => ⟨S512x2304, .fp8e4m3⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S1x2304, .f32⟩
  | .local _ .vmem, ⟨6, _⟩ => ⟨S1x2304, .f32⟩
  | .local _ .vmem, ⟨7, _⟩ => ⟨S2304x4096, .fp8e4m3⟩
  | .local _ .vmem, ⟨8, _⟩ => ⟨S1x4096, .f32⟩
  | .local _ .vmem, ⟨9, _⟩ => ⟨S512x4096, .bf16⟩
  | .local _ .vmem, ⟨10, _⟩ => ⟨S512x4096, .bf16⟩
  | .local _ .vmem, ⟨11, _⟩ => ⟨S512x2304, .bf16⟩
  | .local _ .vmem, ⟨12, _⟩ => ⟨S512x2304, .bf16⟩
  | .local _ .vmem, ⟨13, _⟩ => ⟨S2304x512, .bf16⟩
  | .local _ .vmem, ⟨14, _⟩ => ⟨S2304x512, .bf16⟩
  | .local _ .vmem, ⟨15, _⟩ => ⟨S1x2304, .f32⟩
  | .local _ .vmem, ⟨16, _⟩ => ⟨S1x2304, .f32⟩
  | .local _ .vmem, ⟨17, _⟩ => ⟨S2304x4096, .bf16⟩
  | .local _ .vmem, ⟨18, _⟩ => ⟨S768x2048, .bf16⟩
  | .local _ .vmem, ⟨19, _⟩ => ⟨S768x2048, .bf16⟩
  | .local _ .vmem, ⟨20, _⟩ => ⟨S2048x1024, .bf16⟩
  | .local _ .vmem, ⟨21, _⟩ => ⟨S2048x1024, .bf16⟩
  | .local _ .vmem, ⟨22, _⟩ => ⟨S768x1024, .f32⟩
  | .local _ .vmem, ⟨23, _⟩ => ⟨S768x1024, .f32⟩
  | _, _ => ⟨S2x1024x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem12_0 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  v30
def k0_off1 (i : grid0.Coords) : Fin 2 → Nat :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg0 c2_i32
  let c0_i32_5 : BitVec 32 := 0#32
  let v16 : BitVec 1 := Scalar.cmpi .ne v15 c0_i32_5
  let v17 : BitVec 1 := Scalar.andi v14 v16
  let v3 : BitVec 32 := Scalar.divsi arg0 c2_i32
  let c1_i32 : BitVec 32 := 1#32
  let v18 : BitVec 32 := Scalar.subi v3 c1_i32
  let v19 : BitVec 32 := Scalar.select v17 v18 v3
  let v32 : Index := Scalar.indexCast v19
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  let v31 : BitVec 32 := v30
  let v33 : Index := Scalar.indexCast v31
  ![v32.toNat, v33.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2304x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2304 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2304x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2304 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2304 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨2, ![4, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F] [Named F]
def κ : String → Option EReal := fun
  | "inv_d" => some ((1 / 2304 : ℝ) : EReal)
  | _ => none
-- ==== ReferenceIdeal.lean ====
abbrev S2x1024x2304 : Shape := ⟨3, ![2, 1024, 2304]⟩
abbrev S2x1024 : Shape := ⟨2, ![2, 1024]⟩
abbrev S2304 : Shape := ⟨1, ![2304]⟩
abbrev S2304x4096 : Shape := ⟨2, ![2304, 4096]⟩
abbrev S4096 : Shape := ⟨1, ![4096]⟩
abbrev S2x1024x4096 : Shape := ⟨3, ![2, 1024, 4096]⟩
abbrev S2x1024x1 : Shape := ⟨3, ![2, 1024, 1]⟩
abbrev S1x1x2304 : Shape := ⟨3, ![1, 1, 2304]⟩
abbrev S1x4096 : Shape := ⟨2, ![1, 4096]⟩
abbrev S_ : Shape := ⟨0, ![]⟩

abbrev nBuf : Space → Nat
  | .hbm => 63
  | .vmem => 4
  | .smem => 0
  | _ => 0

abbrev bufTy : (tb : Table) → Fin (tcTables nBuf tb) → BufTy
  | .hbm, ⟨0, _⟩ => ⟨S2x1024x2304, .fp8e4m3⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2304, .f32⟩
  | .hbm, ⟨5, _⟩ => ⟨S2304, .f32⟩
  | .hbm, ⟨6, _⟩ => ⟨S2304x4096, .fp8e4m3⟩
  | .hbm, ⟨7, _⟩ => ⟨S4096, .f32⟩
  | .hbm, ⟨8, _⟩ => ⟨S2x1024x4096, .bf16⟩
  | .hbm, ⟨9, _⟩ => ⟨S2x1024x2304, .f32⟩
  | .hbm, ⟨10, _⟩ => ⟨S2304x4096, .bf16⟩
  | .hbm, ⟨11, _⟩ => ⟨S2x1024x1, .f32⟩
  | .hbm, ⟨12, _⟩ => ⟨S2x1024x2304, .f32⟩
  | .hbm, ⟨13, _⟩ => ⟨S2x1024x2304, .f32⟩
  | .hbm, ⟨14, _⟩ => ⟨S2x1024x1, .f32⟩
  | .hbm, ⟨15, _⟩ => ⟨S2x1024x2304, .f32⟩
  | .hbm, ⟨16, _⟩ => ⟨S2x1024x2304, .f32⟩
  | .hbm, ⟨17, _⟩ => ⟨S2x1024x1, .f32⟩
  | .hbm, ⟨18, _⟩ => ⟨S2x1024x2304, .f32⟩
  | .hbm, ⟨19, _⟩ => ⟨S2x1024x2304, .f32⟩
  | .hbm, ⟨20, _⟩ => ⟨S1x1x2304, .f32⟩
  | .hbm, ⟨21, _⟩ => ⟨S2x1024x2304, .f32⟩
  | .hbm, ⟨22, _⟩ => ⟨S2x1024x2304, .f32⟩
  | .hbm, ⟨23, _⟩ => ⟨S1x1x2304, .f32⟩
  | .hbm, ⟨24, _⟩ => ⟨S2x1024x2304, .f32⟩
  | .hbm, ⟨25, _⟩ => ⟨S2x1024x2304, .f32⟩
  | .hbm, ⟨26, _⟩ => ⟨S2x1024x2304, .bf16⟩
  | .hbm, ⟨27, _⟩ => ⟨S2304x4096, .f32⟩
  | .hbm, ⟨28, _⟩ => ⟨S4096, .bf16⟩
  | .hbm, ⟨29, _⟩ => ⟨S1x4096, .bf16⟩
  | .hbm, ⟨30, _⟩ => ⟨S2304x4096, .bf16⟩
  | .hbm, ⟨31, _⟩ => ⟨S2304x4096, .bf16⟩
  | .hbm, ⟨32, _⟩ => ⟨S2x1024x2304, .f32⟩
  | .hbm, ⟨33, _⟩ => ⟨S2x1024x2304, .f32⟩
  | .hbm, ⟨34, _⟩ => ⟨S_, .f32⟩
  | .hbm, ⟨35, _⟩ => ⟨S2304, .f32⟩
  | .hbm, ⟨36, _⟩ => ⟨S_, .f32⟩
  | .hbm, ⟨37, _⟩ => ⟨S2304, .f32⟩
  | .hbm, ⟨38, _⟩ => ⟨S1x1x2304, .f32⟩
  | .hbm, ⟨39, _⟩ => ⟨S2x1024x2304, .f32⟩
  | .hbm, ⟨40, _⟩ => ⟨S2x1024x2304, .f32⟩
  | .hbm, ⟨41, _⟩ => ⟨S2x1024x1, .f32⟩
  | .hbm, ⟨42, _⟩ => ⟨S_, .f32⟩
  | .hbm, ⟨43, _⟩ => ⟨S2x1024, .f32⟩
  | .hbm, ⟨44, _⟩ => ⟨S2x1024x1, .f32⟩
  | .hbm, ⟨45, _⟩ => ⟨S_, .f32⟩
  | .hbm, ⟨46, _⟩ => ⟨S2x1024x1, .f32⟩
  | .hbm, ⟨47, _⟩ => ⟨S2x1024x1, .f32⟩
  | .hbm, ⟨48, _⟩ => ⟨S2x1024x2304, .f32⟩
  | .hbm, ⟨49, _⟩ => ⟨S2x1024x2304, .f32⟩
  | .hbm, ⟨50, _⟩ => ⟨S2x1024x2304, .f32⟩
  | .hbm, ⟨51, _⟩ => ⟨S_, .f32⟩
  | .hbm, ⟨52, _⟩ => ⟨S2x1024, .f32⟩
  | .hbm, ⟨53, _⟩ => ⟨S2x1024x1, .f32⟩
  | .hbm, ⟨54, _⟩ => ⟨S_, .f32⟩
  | .hbm, ⟨55, _⟩ => ⟨S2x1024x1, .f32⟩
  | .hbm, ⟨56, _⟩ => ⟨S2x1024x1, .f32⟩
  | .hbm, ⟨57, _⟩ => ⟨S2x1024x2304, .f32⟩
  | .hbm, ⟨58, _⟩ => ⟨S2x1024x2304, .f32⟩
  | .hbm, ⟨59, _⟩ => ⟨S2x1024x2304, .f32⟩
  | .hbm, ⟨60, _⟩ => ⟨S2x1024x2304, .f32⟩
  | .hbm, ⟨61, _⟩ => ⟨S2x1024x2304, .f32⟩
  | .hbm, ⟨62, _⟩ => ⟨S2x1024x2304, .bf16⟩
  | .local _ .vmem, ⟨0, _⟩ => ⟨S2x1024x2304, .fp8e4m3⟩
  | .local _ .vmem, ⟨1, _⟩ => ⟨S2304x4096, .fp8e4m3⟩
  | .local _ .vmem, ⟨2, _⟩ => ⟨S2x1024x2304, .f32⟩
  | .local _ .vmem, ⟨3, _⟩ => ⟨S2304x4096, .bf16⟩
  | _, _ => ⟨S2x1024x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x1024x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kern.Body.lean ====
/- The first pallas_call's kernel body on any staging buffers: what one grid point leaves in each output buffer and
   in the scratch buffer, as payloads of the blocks it reads. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes -/

/-- The 512 entries of a 2 x 1024 token statistic that belong to the tokens of grid point `i`. -/
abbrev rowRect (i : grid0.Coords) : Rect S2x1024 := Rect.unit (s := S2x1024) (k0_off1 i) S1x512.size (k0_off1_inb i)

/-- The dequantised weights, from the quantised weights `x6` and their column scales `x7`. -/
def wbB (x6 : Vec F S2304x4096 .fp8e4m3) (x7 : Vec F S1x4096 .f32) : Vec F S2304x4096 .bf16 := k0_pay3 x7 x6

/-- The block of input gradients grid point `i` stores, from its blocks and the dequantised weights `wb`. -/
def dxB (i : grid0.Coords) (x0 : Vec F S512x2304 .fp8e4m3) (x1 x2 x3 : Vec F S2x1024 .f32) (x4 : Vec F S1x2304 .f32)
    (x8 : Vec F S512x4096 .bf16) (wb : Vec F S2304x4096 .bf16) : Vec F S512x2304 .bf16 :=
  k0_pay2 (k0_pay7 (View.ld x2 (rowRect i))) (k0_pay8 x4)
    (k0_pay9 (k0_pay6 (View.ld x1 (rowRect i))) (k0_pay7 (View.ld x2 (rowRect i))) (View.ld x3 (rowRect i)) x0) (k0_pay11 x8 wb)

/-- The block of the transposed layer-norm output grid point `i` stores. -/
def xtB (i : grid0.Coords) (x0 : Vec F S512x2304 .fp8e4m3) (x1 x2 x3 : Vec F S2x1024 .f32) (x4 x5 : Vec F S1x2304 .f32) :
    Vec F S2304x512 .bf16 :=
  k0_pay10 (k0_pay6 (View.ld x1 (rowRect i))) (k0_pay7 (View.ld x2 (rowRect i))) (View.ld x3 (rowRect i)) x4 x0 x5

/-- The scale gradient after grid point `i`, from what it was before (`g`). -/
def dgB (i : grid0.Coords) (x0 : Vec F S512x2304 .fp8e4m3) (x1 x2 x3 : Vec F S2x1024 .f32)
    (x8 : Vec F S512x4096 .bf16) (wb : Vec F S2304x4096 .bf16) (g : Vec F S1x2304 .f32) : Vec F S1x2304 .f32 :=
  k0_pay12 (k0_pay6 (View.ld x1 (rowRect i))) (k0_pay7 (View.ld x2 (rowRect i))) (View.ld x3 (rowRect i)) x0 x8 wb g

/-- The shift gradient after a grid point, from what it was before (`b`). -/
def dbB (x8 : Vec F S512x4096 .bf16) (wb : Vec F S2304x4096 .bf16) (b : Vec F S1x2304 .f32) : Vec F S1x2304 .f32 :=
  k0_pay1 (k0_pay13 b) (k0_pay14 x8 wb)

/-! ## The body's branch -/

/-- The condition of the body's branch: the grid coordinate is zero. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0, e0]
    word_cmp
   : ∀ t : Fin grid0.N, cond0 (grid0.coords t) ↔ t.val % 4 = 0)

/-! ## The body's triple -/

theorem zero2 : (![0, 0] : Fin 2 → ℕ) = fun _ => 0 := by decide

section Body

variable (c : Dev nD) (i : grid0.Coords) (arg1 : Memref sig .tc .vmem S512x2304 .fp8e4m3) (harg1 : arg1.IsWhole) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S1x2304 .f32) (harg5 : arg5.IsWhole) (arg6 : Memref sig .tc .vmem S1x2304 .f32) (harg6 : arg6.IsWhole) (arg7 : Memref sig .tc .vmem S2304x4096 .fp8e4m3) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x2304 .bf16) (harg10 : arg10.IsWhole) (arg11 : Memref sig .tc .vmem S2304x512 .bf16) (harg11 : arg11.IsWhole) (arg12 : Memref sig .tc .vmem S1x2304 .f32) (harg12 : arg12.IsWhole) (arg13 : Memref sig .tc .vmem S1x2304 .f32) (harg13 : arg13.IsWhole) (arg14 : Memref sig .tc .vmem S2304x4096 .bf16) (harg14 : arg14.IsWhole)
  (x0 : Vec F S512x2304 .fp8e4m3) (x1 x2 x3 : Vec F S2x1024 .f32) (x4 x5 : Vec F S1x2304 .f32) (x6 : Vec F S2304x4096 .fp8e4m3) (x7 : Vec F S1x4096 .f32) (x8 : Vec F S512x4096 .bf16)

/-- The nine input buffers at the blocks they hold. -/
abbrev inputs : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8)

/-- The four output buffers and the scratch after the point, from the dequantised weights and the two gradients before it. -/
abbrev outputs (wb : Vec F S2304x4096 .bf16) (g b : Vec F S1x2304 .f32) : sProp 𝕄 :=
  iprop(owns (c : Thread nD τ) arg10 fullShare (dxB i x0 x1 x2 x3 x4 x8 wb) ∗ owns (c : Thread nD τ) arg11 fullShare (xtB i x0 x1 x2 x3 x4 x5)
    ∗ owns (c : Thread nD τ) arg12 fullShare (dgB i x0 x1 x2 x3 x8 wb g) ∗ owns (c : Thread nD τ) arg13 fullShare (dbB x8 wb b)
    ∗ owns (c : Thread nD τ) arg14 fullShare wb)

set_option maxHeartbeats 2000000 in
/-- At the first grid point the body dequantises the weights into the scratch, zeroes the two gradients and adds
    this point's part. -/
theorem body_first (hc0 : cond0 i) (E : Set ℕ) (K : PUnit → sProp 𝕄) :
    iprop(inputs c arg1 arg2 arg3 arg4 arg5 arg6 arg7 arg8 arg9 x0 x1 x2 x3 x4 x5 x6 x7 x8
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(inputs c arg1 arg2 arg3 arg4 arg5 arg6 arg7 arg8 arg9 x0 x1 x2 x3 x4 x5 x6 x7 x8
            ∗ outputs c i arg10 arg11 arg12 arg13 arg14 x0 x1 x2 x3 x4 x5 x8 (wbB x6 x7) k0_pay4 k0_pay5) -∗ K ⟨⟩))
      ⊢ wp frame (wpE (defs₀ (F := F)) Variants.none c none) E (cc0_dx_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_dx_kernel_eq_skeleton]; unfold cc0_dx_kernel_skel
  simp only [k0_part1_eq_skeleton, k0_part2_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, ⟨%d12, %f12, -, H12⟩, ⟨%ds0, %fs0, -, HS0⟩, Hk⟩
  sl_exec (disch := first | sl_exact hc0)
  sl_step
  iapply Hk
  isplitl [H0 H1 H2 H3 H4 H5 H6 H7 H8]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    iexists _; isplitr; · ipureintro; exact hf8
    iexact H8
  isplitl [H9]
  · iexists _; isplitr
    swap; · iexact H9
    ipureintro; subst hf0 hf1 hf2 hf3 hf4 hf6 hf7 hf8
    rw [View.read_writes_full]
    delta body_first.sl.r_1 body_first.sl.r_2 body_first.sl.r_3 body_first.sl.r_4
    delta body_first.sl.r body_first.sl.r_1 body_first.sl.v66 body_first.sl.HS0_1
    repeat rw [View.readCov_full]
    repeat rw [View.readAt_full]
    unfold dxB wbB
    rfl
  isplitl [H10]
  · iexists _; isplitr
    swap; · iexact H10
    ipureintro; subst hf0 hf1 hf2 hf3 hf4 hf5
    rw [View.read_writes_full]
    delta body_first.sl.r body_first.sl.r_1
    repeat rw [View.readAt_full]
    rfl
  isplitl [H11]
  · iexists _; isplitr
    swap; · iexact H11
    ipureintro; subst hf0 hf1 hf2 hf3 hf6 hf7 hf8
    rw [View.read_writes_full]
    delta body_first.sl.r body_first.sl.r_1 body_first.sl.v66 body_first.sl.v68 body_first.sl.HS0_1 body_first.sl.H11_1
    repeat rw [View.readCov_full]
    repeat rw [View.readAt_full]
    rfl
  isplitl [H12]
  · iexists _; isplitr
    swap; · iexact H12
    ipureintro; subst hf6 hf7 hf8
    rw [View.read_writes_full]
    delta body_first.sl.r_5 body_first.sl.r_6
    delta body_first.sl.v66 body_first.sl.v75 body_first.sl.HS0_1 body_first.sl.H12_1
    repeat rw [View.readCov_full]
    repeat rw [View.readAt_full]
    rfl
  iexists _; isplitr
  swap; · iexact HS0
  ipureintro; subst hf6 hf7
  delta body_first.sl.HS0_1
  rw [View.read_writes_full]
  repeat rw [View.readAt_full]
  rfl

set_option maxHeartbeats 2000000 in
/-- At a later grid point the body reads the dequantised weights off the scratch (`wb`) and adds this point's part to
    the two gradients (`g`, `b`). -/
theorem body_later (wb : Vec F S2304x4096 .bf16) (g b : Vec F S1x2304 .f32) (hc0 : ¬ cond0 i) (E : Set ℕ) (K : PUnit → sProp 𝕄) :
    iprop(inputs c arg1 arg2 arg3 arg4 arg5 arg6 arg7 arg8 arg9 x0 x1 x2 x3 x4 x5 x6 x7 x8
        ∗ (∃ d, owns (c : Thread nD τ) arg10 fullShare d) ∗ (∃ d, owns (c : Thread nD τ) arg11 fullShare d) ∗ owns (c : Thread nD τ) arg12 fullShare g ∗ owns (c : Thread nD τ) arg13 fullShare b ∗ owns (c : Thread nD τ) arg14 fullShare wb
        ∗ (iprop(inputs c arg1 arg2 arg3 arg4 arg5 arg6 arg7 arg8 arg9 x0 x1 x2 x3 x4 x5 x6 x7 x8
            ∗ outputs c i arg10 arg11 arg12 arg13 arg14 x0 x1 x2 x3 x4 x5 x8 wb g b) -∗ K ⟨⟩))
      ⊢ wp frame (wpE (defs₀ (F := F)) Variants.none c none) E (cc0_dx_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_dx_kernel_eq_skeleton]; unfold cc0_dx_kernel_skel
  simp only [k0_part1_eq_skeleton, k0_part2_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%f11, %hf11, H11⟩, ⟨%f12, %hf12, H12⟩, ⟨%fs0, %hfs0, HS0⟩, Hk⟩
  sl_exec (disch := first | sl_exact hc0)
  sl_step
  iapply Hk
  isplitl [H0 H1 H2 H3 H4 H5 H6 H7 H8]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    iexists _; isplitr; · ipureintro; exact hf8
    iexact H8
  isplitl [H9]
  · iexists _; isplitr
    swap; · iexact H9
    ipureintro; subst hf0 hf1 hf2 hf3 hf4 hf8 hfs0
    rw [View.read_writes_full]
    delta body_later.sl.r_1 body_later.sl.r_2 body_later.sl.r_3 body_later.sl.r_4
    delta body_later.sl.r body_later.sl.r_1
    repeat rw [View.readAt_full]
    unfold dxB
    rfl
  isplitl [H10]
  · iexists _; isplitr
    swap; · iexact H10
    ipureintro; subst hf0 hf1 hf2 hf3 hf4 hf5
    rw [View.read_writes_full]
    delta body_later.sl.r body_later.sl.r_1
    repeat rw [View.readAt_full]
    rfl
  isplitl [H11]
  · iexists _; isplitr
    swap; · iexact H11
    ipureintro; subst hf0 hf1 hf2 hf3 hf8 hfs0 hf11
    rw [View.read_writes_full]
    delta body_later.sl.r body_later.sl.r_1
    repeat rw [View.readAt_full]
    rfl
  isplitl [H12]
  · iexists _; isplitr
    swap; · iexact H12
    ipureintro; subst hf8 hfs0 hf12
    rw [View.read_writes_full]
    delta body_later.sl.r_5 body_later.sl.r_6
    repeat rw [View.readAt_full]
    rfl
  iexists _; isplitr
  swap; · iexact HS0
  ipureintro
  exact hfs0

end Body

end Cert.Kernel.Whole

end
-- ==== Proof.Kern.Region0.lean ====
/- The first pallas_call's grid run: the contents of every buffer after each point, with the dequantised weights and the two
   gradients carried from one point to the next, and the body's obligation at every point. -/
module

public import proofs.«01_k».proof.Proof.Kern.Body

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S512x2304 .fp8e4m3 := win0_0.stage (cfg0.slots t 0)
abbrev ms0_1 (t : Fin cfg0.N) : Memref sig .tc .vmem S2x1024 .f32 := win0_1.stage (cfg0.slots t 1)
abbrev ms0_2 (t : Fin cfg0.N) : Memref sig .tc .vmem S2x1024 .f32 := win0_2.stage (cfg0.slots t 2)
abbrev ms0_3 (t : Fin cfg0.N) : Memref sig .tc .vmem S2x1024 .f32 := win0_3.stage (cfg0.slots t 3)
abbrev ms0_4 (t : Fin cfg0.N) : Memref sig .tc .vmem S1x2304 .f32 := win0_4.stage (cfg0.slots t 4)
abbrev ms0_5 (t : Fin cfg0.N) : Memref sig .tc .vmem S1x2304 .f32 := win0_5.stage (cfg0.slots t 5)
abbrev ms0_6 (t : Fin cfg0.N) : Memref sig .tc .vmem S2304x4096 .fp8e4m3 := win0_6.stage (cfg0.slots t 6)
abbrev ms0_7 (t : Fin cfg0.N) : Memref sig .tc .vmem S1x4096 .f32 := win0_7.stage (cfg0.slots t 7)
abbrev ms0_8 (t : Fin cfg0.N) : Memref sig .tc .vmem S512x4096 .bf16 := win0_8.stage (cfg0.slots t 8)
abbrev ms0_9 (t : Fin cfg0.N) : Memref sig .tc .vmem S512x2304 .bf16 := win0_9.stage (cfg0.slots t 9)
abbrev ms0_10 (t : Fin cfg0.N) : Memref sig .tc .vmem S2304x512 .bf16 := win0_10.stage (cfg0.slots t 10)
abbrev ms0_11 (t : Fin cfg0.N) : Memref sig .tc .vmem S1x2304 .f32 := win0_11.stage (cfg0.slots t 11)
abbrev ms0_12 (t : Fin cfg0.N) : Memref sig .tc .vmem S1x2304 .f32 := win0_12.stage (cfg0.slots t 12)
abbrev scM0_0 : Memref sig .tc .vmem S2304x4096 .bf16 := Memref.whole cc0_scratch0

/-- The second call's six staging buffers, at some contents: this call does not touch them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The frame kit's invariant: the scratch at some contents, the second call's staging buffers, the generator register. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

/-! ## What the points leave -/

/-- The first point. -/
abbrev pt0 : Fin cfg0.N := ⟨0, by rw [show cfg0.N = 4 from N_0]; decide⟩

/-- The dequantised weights, computed at the first point and kept. -/
def wb0 (c : Dev nD) : Vec F S2304x4096 .bf16 := wbB (iblk0 V c 6 pt0) (iblk0 V c 7 pt0)

/-- The scale gradient after point `n`. -/
def dgAt (c : Dev nD) : (n : ℕ) → n < cfg0.N → Vec F S1x2304 .f32
  | 0, h => dgB (grid0.coords ⟨0, h⟩) (iblk0 V c 0 ⟨0, h⟩) (iblk0 V c 1 ⟨0, h⟩) (iblk0 V c 2 ⟨0, h⟩) (iblk0 V c 3 ⟨0, h⟩) (iblk0 V c 8 ⟨0, h⟩) (wb0 V c) k0_pay4
  | n + 1, h => dgB (grid0.coords ⟨n + 1, h⟩) (iblk0 V c 0 ⟨n + 1, h⟩) (iblk0 V c 1 ⟨n + 1, h⟩) (iblk0 V c 2 ⟨n + 1, h⟩) (iblk0 V c 3 ⟨n + 1, h⟩) (iblk0 V c 8 ⟨n + 1, h⟩) (wb0 V c)
      (dgAt c n (Nat.lt_of_succ_lt h))

/-- The shift gradient after point `n`. -/
def dbAt (c : Dev nD) : (n : ℕ) → n < cfg0.N → Vec F S1x2304 .f32
  | 0, h => dbB (iblk0 V c 8 ⟨0, h⟩) (wb0 V c) k0_pay5
  | n + 1, h => dbB (iblk0 V c 8 ⟨n + 1, h⟩) (wb0 V c) (dbAt c n (Nat.lt_of_succ_lt h))

/-- The input-gradient block of point `t`. -/
def dxAt (c : Dev nD) (t : Fin cfg0.N) : Vec F S512x2304 .bf16 :=
  dxB (grid0.coords t) (iblk0 V c 0 t) (iblk0 V c 1 t) (iblk0 V c 2 t) (iblk0 V c 3 t) (iblk0 V c 4 t) (iblk0 V c 8 t) (wb0 V c)

/-- The transposed layer-norm block of point `t`. -/
def xtAt (c : Dev nD) (t : Fin cfg0.N) : Vec F S2304x512 .bf16 :=
  xtB (grid0.coords t) (iblk0 V c 0 t) (iblk0 V c 1 t) (iblk0 V c 2 t) (iblk0 V c 3 t) (iblk0 V c 4 t) (iblk0 V c 5 t)

/-- The invariant before point `n`: at the start the frame kit's own; afterwards the scratch holds the dequantised weights. -/
def PhiS (c : Dev nD) : (n : ℕ) → n ≤ cfg0.N → sProp 𝕄
  | 0, _ => Pipeline.ΦA spec0 c
  | n + 1, _ => iprop(iprop(owns (c : Thread nD τ) scM0_0 fullShare (wb0 V c) ∗ rest0 c) ∗ (∃ r, prngReg c r))

theorem PhiS_pos (c : Dev nD) (n : ℕ) (h : n ≤ cfg0.N) (hz : n ≠ 0) :
    PhiS V c n h = iprop(iprop(owns (c : Thread nD τ) scM0_0 fullShare (wb0 V c) ∗ rest0 c) ∗ (∃ r, prngReg c r)) := by
  cases n with
  | zero => exact absurd rfl hz
  | succ n => rfl

/-! ## The pipeline's proof data -/

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => dxAt V c t
    | ⟨10, _⟩ => xtAt V c t
    | ⟨11, _⟩ => dgAt V c t.val t.isLt
    | ⟨12, _⟩ => dbAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = dxAt V c t := by dsimp only [dat0]
theorem after0_10 (c : Dev nD) (t : Fin cfg0.N) : (dat0 V c).after 10 t = xtAt V c t := by dsimp only [dat0]
theorem after0_11 (c : Dev nD) (t : Fin cfg0.N) : (dat0 V c).after 11 t = dgAt V c t.val t.isLt := by dsimp only [dat0]
theorem after0_12 (c : Dev nD) (t : Fin cfg0.N) : (dat0 V c).after 12 t = dbAt V c t.val t.isLt := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]) t d).trans
    (by unfold Dat.fetched Dat.blockOf iblk0; rw [A_eq0]; try rfl)
theorem before0_11_later (c : Dev nD) (t : Fin cfg0.N) (h0 : ¬t.val % 4 = 0) (d) :
    (dat0 V c).before 11 t d = dgAt V c (t.val - 1) (Nat.lt_of_le_of_lt (Nat.sub_le _ _) t.isLt) := by
  have hN : t.val < 4 := lt_of_lt_of_eq t.isLt (show cfg0.N = 4 from N_0)
  rw [Dat.before_out_kept _ 11 rfl t (by omega) (Bool.eq_false_iff.mpr fun h => by have := (flush0_11 _).mp h; dsimp only at this; omega)
    (fun _ => rfl) (fun _ _ => rfl)]
  dsimp only [dat0]
theorem before0_12_later (c : Dev nD) (t : Fin cfg0.N) (h0 : ¬t.val % 4 = 0) (d) :
    (dat0 V c).before 12 t d = dbAt V c (t.val - 1) (Nat.lt_of_le_of_lt (Nat.sub_le _ _) t.isLt) := by
  have hN : t.val < 4 := lt_of_lt_of_eq t.isLt (show cfg0.N = 4 from N_0)
  rw [Dat.before_out_kept _ 12 rfl t (by omega) (Bool.eq_false_iff.mpr fun h => by have := (flush0_12 _).mp h; dsimp only at this; omega)
    (fun _ => rfl) (fun _ _ => rfl)]
  dsimp only [dat0]

theorem dgAt_later (c : Dev nD) (t : Fin cfg0.N) (h0 : ¬t.val % 4 = 0) :
    dgAt V c t.val t.isLt = dgB (grid0.coords t) (iblk0 V c 0 t) (iblk0 V c 1 t) (iblk0 V c 2 t) (iblk0 V c 3 t) (iblk0 V c 8 t) (wb0 V c)
      (dgAt V c (t.val - 1) (Nat.lt_of_le_of_lt (Nat.sub_le _ _) t.isLt)) := by
  obtain ⟨n, hn⟩ := t
  cases n with
  | zero => exact absurd rfl h0
  | succ n => rfl

theorem dbAt_later (c : Dev nD) (t : Fin cfg0.N) (h0 : ¬t.val % 4 = 0) :
    dbAt V c t.val t.isLt = dbB (iblk0 V c 8 t) (wb0 V c) (dbAt V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t))

set_option maxHeartbeats 2400000 in
/-- The body at any point: at the first it fills the scratch and starts the two gradients, afterwards it reads the
    scratch and adds to what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9, after0_10, after0_11, after0_12]
  rw [show (dat0 V c).Φ t.castSucc = PhiS V c t.val (Nat.le_of_lt t.isLt) from rfl,
    show (dat0 V c).Φ t.succ = iprop(iprop(owns (c : Thread nD τ) scM0_0 fullShare (wb0 V c) ∗ rest0 c) ∗ (∃ r, prngReg c r)) from rfl]
  have hN : t.val < 4 := lt_of_lt_of_eq t.isLt (show cfg0.N = 4 from N_0)
  by_cases h0 : t.val % 4 = 0
  · obtain rfl : t = pt0 := Fin.ext (show t.val = 0 by omega)
    rw [show PhiS V c (pt0 : Fin cfg0.N).val (Nat.le_of_lt (pt0 : Fin cfg0.N).isLt) = Pipeline.ΦA spec0 c from rfl, PhiA0_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_first c (grid0.coords pt0) _ _ _ _ _ _ _ _ _ _ _ _ _ _ _ _ _ _ _ _ _ _ _ _ _ _ _ _ (iblk0 V c 0 pt0) (iblk0 V c 1 pt0) (iblk0 V c 2 pt0) (iblk0 V c 3 pt0) (iblk0 V c 4 pt0) (iblk0 V c 5 pt0) (iblk0 V c 6 pt0) (iblk0 V c 7 pt0) (iblk0 V c 8 pt0) ((hcond0 pt0).mpr h0) Set.univ _)
    unfold inputs outputs
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexists _; iexact H11
    isplitl [H12]; · iexists _; iexact H12
    isplitl [HS0]; · iexact HS0
    iintro ⟨⟨H0, H1, H2, H3, H4, H5, H6, H7, H8⟩, H9, H10, H11, H12, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [PhiS_pos V c t.val _ (fun h => h0 (by rw [h]))]
    simp only [before0_11_later V c t h0, before0_12_later V c t h0]
    rw [dgAt_later V c t h0, dbAt_later V c t h0]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_later c (grid0.coords t) _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (wb0 V c) (dgAt V c (t.val - 1) (Nat.lt_of_le_of_lt (Nat.sub_le _ _) t.isLt)) (dbAt V c (t.val - 1) (Nat.lt_of_le_of_lt (Nat.sub_le _ _) t.isLt)) (fun h => h0 ((hcond0 t).mp h)) Set.univ _)
    unfold inputs outputs
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexact H11
    isplitl [H12]; · iexact H12
    isplitl [HS0]; · iexact HS0
    iintro ⟨⟨H0, H1, H2, H3, H4, H5, H6, H7, H8⟩, H9, H10, H11, H12, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Before the first point the invariant is the frame kit's; -/
theorem hin0 (c : Dev nD) : Pipeline.ΦA spec0 c ⊢ (dat0 V c).Φ 0 := .rfl

/-- and after the last it gives the frame kit's back. -/
theorem hout0 (c : Dev nD) : (dat0 V c).Φ (Fin.last cfg0.N) ⊢ Pipeline.ΦA spec0 c := by
  rw [PhiA0_eq, show (dat0 V c).Φ (Fin.last cfg0.N)
    = iprop(iprop(owns (c : Thread nD τ) scM0_0 fullShare (wb0 V c) ∗ rest0 c) ∗ (∃ r, prngReg c r)) from
      PhiS_pos V c cfg0.N le_rfl (by rw [show cfg0.N = 4 from N_0]; decide)]
  iintro ⟨⟨HS0, HR⟩, Hg⟩
  isplitl [HS0 HR]
  · isplitl [HS0]
    · iexists _; iexact HS0
    iexact HR
  iexact Hg

end Cert.Kernel.Whole

end
-- ==== Proof.Kern.Region1.lean ====
/- The second pallas_call's grid run: one product of a block of rows with a block of columns at every point. -/
module

public import proofs.«01_k».proof.Proof.Kern.Body

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output window's buffer, from the input windows' blocks. -/
def out1_2 (x0 : Vec F S768x2048 .bf16) (x1 : Vec F S2048x1024 .bf16) : Vec F S768x1024 .f32 := k1_pay1 x0 x1

/-! ## The body's triple -/

set_option maxHeartbeats 1000000 in
/-- The kernel body on whole staging buffers: it leaves the inputs' as they were and the output's at the block's product. -/
theorem sound_kernel1 (c : Dev nD) (E : Set ℕ) (i : grid1.Coords) (arg2 : Memref sig .tc .vmem S768x2048 .bf16) (harg2 : arg2.IsWhole) (arg3 : Memref sig .tc .vmem S2048x1024 .bf16) (harg3 : arg3.IsWhole) (arg4 : Memref sig .tc .vmem S768x1024 .f32) (harg4 : arg4.IsWhole)
    (x0 : Vec F S768x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_dw_kernel i arg2 harg2 arg3 harg3 arg4 harg4) K := by
  simp only [cc1_dw_kernel_eq_skeleton]; unfold cc1_dw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_full]
  repeat rw [View.readAt_full]
  rfl

/-! ## The pipeline's proof data -/

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Whole

end
-- ==== Proof.Kern.Run.lean ====
/- The whole run of @main: the contents of every buffer at each boundary between the host stretches and the two
   pallas_calls, and the run that ends at the last of them. -/
module

public import proofs.«01_k».proof.Proof.Kern.Region0
public import proofs.«01_k».proof.Proof.Kern.Region1
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,. -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]; refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of @main ends, nothing faulting, with every unscoped buffer of every core at the last
    boundary's contents `W4` and every semaphore counter at zero. -/
theorem run_all : θ_run defs (onTc (τ := τ) (main (F := F))) ⟨m, fun _ => 0, ρ⟩ (fun r =>
      (∀ c : Dev nD, ∀ b ∈ Pipeline.ucRefs τ sig, r.2.mem ((c.tc : Thread nD τ).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => by
    have hr : ∀ c : Dev nD, ∀ a ∈ argRefs, ¬ (Proc.devRef .tc a : DevRef τ sig).isScoped →
        r.2.mem ((c.tc : Thread nD τ).loc a) = m ((c.tc : Thread nD τ).loc a) :=
      fun c a ha hs => (h.1 c _ (mem_uc a hs)).trans (W4_args m ρ c a ha)
    exact ⟨fun c => ⟨hr c main_arg0 (by decide) (by decide), hr c main_arg1 (by decide) (by decide), hr c main_arg2 (by decide) (by decide), hr c main_arg3 (by decide) (by decide), hr c main_arg4 (by decide) (by decide), hr c main_arg5 (by decide) (by decide), hr c main_arg6 (by decide) (by decide), hr c main_arg7 (by decide) (by decide), hr c main_arg8 (by decide) (by decide)⟩, h.2⟩) (run_all m ρ)

end Cert.Kernel.Whole

end
-- ==== Proof.Kern.BodyIdeal.lean ====
/- The first pallas_call's kernel body on any staging buffers: what one grid point leaves in each output buffer and
   in the scratch buffer, as payloads of the blocks it reads. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one grid point computes -/

/-- The 512 entries of a 2 x 1024 token statistic that belong to the tokens of grid point `i`. -/
abbrev rowRect (i : grid0.Coords) : Rect S2x1024 := Rect.unit (s := S2x1024) (k0_off1 i) S1x512.size (k0_off1_inb i)

/-- The dequantised weights, from the quantised weights `x6` and their column scales `x7`. -/
def wbB (x6 : Vec F S2304x4096 .fp8e4m3) (x7 : Vec F S1x4096 .f32) : Vec F S2304x4096 .bf16 := k0_pay3 x7 x6

/-- The block of input gradients grid point `i` stores, from its blocks and the dequantised weights `wb`. -/
def dxB (i : grid0.Coords) (x0 : Vec F S512x2304 .fp8e4m3) (x1 x2 x3 : Vec F S2x1024 .f32) (x4 : Vec F S1x2304 .f32)
    (x8 : Vec F S512x4096 .bf16) (wb : Vec F S2304x4096 .bf16) : Vec F S512x2304 .bf16 :=
  k0_pay2 (k0_pay7 (View.ld x2 (rowRect i))) (k0_pay8 x4)
    (k0_pay9 (k0_pay6 (View.ld x1 (rowRect i))) (k0_pay7 (View.ld x2 (rowRect i))) (View.ld x3 (rowRect i)) x0) (k0_pay11 x8 wb)

/-- The block of the transposed layer-norm output grid point `i` stores. -/
def xtB (i : grid0.Coords) (x0 : Vec F S512x2304 .fp8e4m3) (x1 x2 x3 : Vec F S2x1024 .f32) (x4 x5 : Vec F S1x2304 .f32) :
    Vec F S2304x512 .bf16 :=
  k0_pay10 (k0_pay6 (View.ld x1 (rowRect i))) (k0_pay7 (View.ld x2 (rowRect i))) (View.ld x3 (rowRect i)) x4 x0 x5

/-- The scale gradient after grid point `i`, from what it was before (`g`). -/
def dgB (i : grid0.Coords) (x0 : Vec F S512x2304 .fp8e4m3) (x1 x2 x3 : Vec F S2x1024 .f32)
    (x8 : Vec F S512x4096 .bf16) (wb : Vec F S2304x4096 .bf16) (g : Vec F S1x2304 .f32) : Vec F S1x2304 .f32 :=
  k0_pay12 (k0_pay6 (View.ld x1 (rowRect i))) (k0_pay7 (View.ld x2 (rowRect i))) (View.ld x3 (rowRect i)) x0 x8 wb g

/-- The shift gradient after a grid point, from what it was before (`b`). -/
def dbB (x8 : Vec F S512x4096 .bf16) (wb : Vec F S2304x4096 .bf16) (b : Vec F S1x2304 .f32) : Vec F S1x2304 .f32 :=
  k0_pay1 (k0_pay13 b) (k0_pay14 x8 wb)

/-! ## The body's branch -/

/-- The condition of the body's branch: the grid coordinate is zero. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0, e0]
    word_cmp
   : ∀ t : Fin grid0.N, cond0 (grid0.coords t) ↔ t.val % 4 = 0)

/-! ## The body's triple -/

theorem zero2 : (![0, 0] : Fin 2 → ℕ) = fun _ => 0 := by decide

section Body

variable (c : Dev nD) (i : grid0.Coords) (arg1 : Memref sig .tc .vmem S512x2304 .fp8e4m3) (harg1 : arg1.IsWhole) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S1x2304 .f32) (harg5 : arg5.IsWhole) (arg6 : Memref sig .tc .vmem S1x2304 .f32) (harg6 : arg6.IsWhole) (arg7 : Memref sig .tc .vmem S2304x4096 .fp8e4m3) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x2304 .bf16) (harg10 : arg10.IsWhole) (arg11 : Memref sig .tc .vmem S2304x512 .bf16) (harg11 : arg11.IsWhole) (arg12 : Memref sig .tc .vmem S1x2304 .f32) (harg12 : arg12.IsWhole) (arg13 : Memref sig .tc .vmem S1x2304 .f32) (harg13 : arg13.IsWhole) (arg14 : Memref sig .tc .vmem S2304x4096 .bf16) (harg14 : arg14.IsWhole)
  (x0 : Vec F S512x2304 .fp8e4m3) (x1 x2 x3 : Vec F S2x1024 .f32) (x4 x5 : Vec F S1x2304 .f32) (x6 : Vec F S2304x4096 .fp8e4m3) (x7 : Vec F S1x4096 .f32) (x8 : Vec F S512x4096 .bf16)

/-- The nine input buffers at the blocks they hold. -/
abbrev inputs : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8)

/-- The four output buffers and the scratch after the point, from the dequantised weights and the two gradients before it. -/
abbrev outputs (wb : Vec F S2304x4096 .bf16) (g b : Vec F S1x2304 .f32) : sProp 𝕄 :=
  iprop(owns (c : Thread nD τ) arg10 fullShare (dxB i x0 x1 x2 x3 x4 x8 wb) ∗ owns (c : Thread nD τ) arg11 fullShare (xtB i x0 x1 x2 x3 x4 x5)
    ∗ owns (c : Thread nD τ) arg12 fullShare (dgB i x0 x1 x2 x3 x8 wb g) ∗ owns (c : Thread nD τ) arg13 fullShare (dbB x8 wb b)
    ∗ owns (c : Thread nD τ) arg14 fullShare wb)

set_option maxHeartbeats 2000000 in
/-- At the first grid point the body dequantises the weights into the scratch, zeroes the two gradients and adds
    this point's part. -/
theorem body_first (hc0 : cond0 i) (E : Set ℕ) (K : PUnit → sProp 𝕄) :
    iprop(inputs c arg1 arg2 arg3 arg4 arg5 arg6 arg7 arg8 arg9 x0 x1 x2 x3 x4 x5 x6 x7 x8
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(inputs c arg1 arg2 arg3 arg4 arg5 arg6 arg7 arg8 arg9 x0 x1 x2 x3 x4 x5 x6 x7 x8
            ∗ outputs c i arg10 arg11 arg12 arg13 arg14 x0 x1 x2 x3 x4 x5 x8 (wbB x6 x7) k0_pay4 k0_pay5) -∗ K ⟨⟩))
      ⊢ wp frame (wpE (defs₀ (F := F)) Variants.none c none) E (cc0_dx_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_dx_kernel_eq_skeleton]; unfold cc0_dx_kernel_skel
  simp only [k0_part1_eq_skeleton, k0_part2_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, ⟨%d12, %f12, -, H12⟩, ⟨%ds0, %fs0, -, HS0⟩, Hk⟩
  sl_exec (disch := first | sl_exact hc0)
  sl_step
  iapply Hk
  isplitl [H0 H1 H2 H3 H4 H5 H6 H7 H8]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    iexists _; isplitr; · ipureintro; exact hf8
    iexact H8
  isplitl [H9]
  · iexists _; isplitr
    swap; · iexact H9
    ipureintro; subst hf0 hf1 hf2 hf3 hf4 hf6 hf7 hf8
    rw [View.read_writes_full]
    delta body_first.sl.r_1 body_first.sl.r_2 body_first.sl.r_3 body_first.sl.r_4
    delta body_first.sl.r body_first.sl.r_1 body_first.sl.v66 body_first.sl.HS0_1
    repeat rw [View.readCov_full]
    repeat rw [View.readAt_full]
    unfold dxB wbB
    rfl
  isplitl [H10]
  · iexists _; isplitr
    swap; · iexact H10
    ipureintro; subst hf0 hf1 hf2 hf3 hf4 hf5
    rw [View.read_writes_full]
    delta body_first.sl.r body_first.sl.r_1
    repeat rw [View.readAt_full]
    rfl
  isplitl [H11]
  · iexists _; isplitr
    swap; · iexact H11
    ipureintro; subst hf0 hf1 hf2 hf3 hf6 hf7 hf8
    rw [View.read_writes_full]
    delta body_first.sl.r body_first.sl.r_1 body_first.sl.v66 body_first.sl.v68 body_first.sl.HS0_1 body_first.sl.H11_1
    repeat rw [View.readCov_full]
    repeat rw [View.readAt_full]
    rfl
  isplitl [H12]
  · iexists _; isplitr
    swap; · iexact H12
    ipureintro; subst hf6 hf7 hf8
    rw [View.read_writes_full]
    delta body_first.sl.r_5 body_first.sl.r_6
    delta body_first.sl.v66 body_first.sl.v75 body_first.sl.HS0_1 body_first.sl.H12_1
    repeat rw [View.readCov_full]
    repeat rw [View.readAt_full]
    rfl
  iexists _; isplitr
  swap; · iexact HS0
  ipureintro; subst hf6 hf7
  delta body_first.sl.HS0_1
  rw [View.read_writes_full]
  repeat rw [View.readAt_full]
  rfl

set_option maxHeartbeats 2000000 in
/-- At a later grid point the body reads the dequantised weights off the scratch (`wb`) and adds this point's part to
    the two gradients (`g`, `b`). -/
theorem body_later (wb : Vec F S2304x4096 .bf16) (g b : Vec F S1x2304 .f32) (hc0 : ¬ cond0 i) (E : Set ℕ) (K : PUnit → sProp 𝕄) :
    iprop(inputs c arg1 arg2 arg3 arg4 arg5 arg6 arg7 arg8 arg9 x0 x1 x2 x3 x4 x5 x6 x7 x8
        ∗ (∃ d, owns (c : Thread nD τ) arg10 fullShare d) ∗ (∃ d, owns (c : Thread nD τ) arg11 fullShare d) ∗ owns (c : Thread nD τ) arg12 fullShare g ∗ owns (c : Thread nD τ) arg13 fullShare b ∗ owns (c : Thread nD τ) arg14 fullShare wb
        ∗ (iprop(inputs c arg1 arg2 arg3 arg4 arg5 arg6 arg7 arg8 arg9 x0 x1 x2 x3 x4 x5 x6 x7 x8
            ∗ outputs c i arg10 arg11 arg12 arg13 arg14 x0 x1 x2 x3 x4 x5 x8 wb g b) -∗ K ⟨⟩))
      ⊢ wp frame (wpE (defs₀ (F := F)) Variants.none c none) E (cc0_dx_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_dx_kernel_eq_skeleton]; unfold cc0_dx_kernel_skel
  simp only [k0_part1_eq_skeleton, k0_part2_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%f11, %hf11, H11⟩, ⟨%f12, %hf12, H12⟩, ⟨%fs0, %hfs0, HS0⟩, Hk⟩
  sl_exec (disch := first | sl_exact hc0)
  sl_step
  iapply Hk
  isplitl [H0 H1 H2 H3 H4 H5 H6 H7 H8]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    iexists _; isplitr; · ipureintro; exact hf8
    iexact H8
  isplitl [H9]
  · iexists _; isplitr
    swap; · iexact H9
    ipureintro; subst hf0 hf1 hf2 hf3 hf4 hf8 hfs0
    rw [View.read_writes_full]
    delta body_later.sl.r_1 body_later.sl.r_2 body_later.sl.r_3 body_later.sl.r_4
    delta body_later.sl.r body_later.sl.r_1
    repeat rw [View.readAt_full]
    unfold dxB
    rfl
  isplitl [H10]
  · iexists _; isplitr
    swap; · iexact H10
    ipureintro; subst hf0 hf1 hf2 hf3 hf4 hf5
    rw [View.read_writes_full]
    delta body_later.sl.r body_later.sl.r_1
    repeat rw [View.readAt_full]
    rfl
  isplitl [H11]
  · iexists _; isplitr
    swap; · iexact H11
    ipureintro; subst hf0 hf1 hf2 hf3 hf8 hfs0 hf11
    rw [View.read_writes_full]
    delta body_later.sl.r body_later.sl.r_1
    repeat rw [View.readAt_full]
    rfl
  isplitl [H12]
  · iexists _; isplitr
    swap; · iexact H12
    ipureintro; subst hf8 hfs0 hf12
    rw [View.read_writes_full]
    delta body_later.sl.r_5 body_later.sl.r_6
    repeat rw [View.readAt_full]
    rfl
  iexists _; isplitr
  swap; · iexact HS0
  ipureintro
  exact hfs0

end Body

end Cert.KernelIdeal.Whole

end
-- ==== Proof.Kern.Region0Ideal.lean ====
/- The first pallas_call's grid run: the contents of every buffer after each point, with the dequantised weights and the two
   gradients carried from one point to the next, and the body's obligation at every point. -/
module

public import proofs.«01_k».proof.Proof.Kern.BodyIdeal

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S512x2304 .fp8e4m3 := win0_0.stage (cfg0.slots t 0)
abbrev ms0_1 (t : Fin cfg0.N) : Memref sig .tc .vmem S2x1024 .f32 := win0_1.stage (cfg0.slots t 1)
abbrev ms0_2 (t : Fin cfg0.N) : Memref sig .tc .vmem S2x1024 .f32 := win0_2.stage (cfg0.slots t 2)
abbrev ms0_3 (t : Fin cfg0.N) : Memref sig .tc .vmem S2x1024 .f32 := win0_3.stage (cfg0.slots t 3)
abbrev ms0_4 (t : Fin cfg0.N) : Memref sig .tc .vmem S1x2304 .f32 := win0_4.stage (cfg0.slots t 4)
abbrev ms0_5 (t : Fin cfg0.N) : Memref sig .tc .vmem S1x2304 .f32 := win0_5.stage (cfg0.slots t 5)
abbrev ms0_6 (t : Fin cfg0.N) : Memref sig .tc .vmem S2304x4096 .fp8e4m3 := win0_6.stage (cfg0.slots t 6)
abbrev ms0_7 (t : Fin cfg0.N) : Memref sig .tc .vmem S1x4096 .f32 := win0_7.stage (cfg0.slots t 7)
abbrev ms0_8 (t : Fin cfg0.N) : Memref sig .tc .vmem S512x4096 .bf16 := win0_8.stage (cfg0.slots t 8)
abbrev ms0_9 (t : Fin cfg0.N) : Memref sig .tc .vmem S512x2304 .bf16 := win0_9.stage (cfg0.slots t 9)
abbrev ms0_10 (t : Fin cfg0.N) : Memref sig .tc .vmem S2304x512 .bf16 := win0_10.stage (cfg0.slots t 10)
abbrev ms0_11 (t : Fin cfg0.N) : Memref sig .tc .vmem S1x2304 .f32 := win0_11.stage (cfg0.slots t 11)
abbrev ms0_12 (t : Fin cfg0.N) : Memref sig .tc .vmem S1x2304 .f32 := win0_12.stage (cfg0.slots t 12)
abbrev scM0_0 : Memref sig .tc .vmem S2304x4096 .bf16 := Memref.whole cc0_scratch0

/-- The second call's six staging buffers, at some contents: this call does not touch them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The frame kit's invariant: the scratch at some contents, the second call's staging buffers, the generator register. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

/-! ## What the points leave -/

/-- The first point. -/
abbrev pt0 : Fin cfg0.N := ⟨0, by rw [show cfg0.N = 4 from N_0]; decide⟩

/-- The dequantised weights, computed at the first point and kept. -/
def wb0 (c : Dev nD) : Vec F S2304x4096 .bf16 := wbB (iblk0 V c 6 pt0) (iblk0 V c 7 pt0)

/-- The scale gradient after point `n`. -/
def dgAt (c : Dev nD) : (n : ℕ) → n < cfg0.N → Vec F S1x2304 .f32
  | 0, h => dgB (grid0.coords ⟨0, h⟩) (iblk0 V c 0 ⟨0, h⟩) (iblk0 V c 1 ⟨0, h⟩) (iblk0 V c 2 ⟨0, h⟩) (iblk0 V c 3 ⟨0, h⟩) (iblk0 V c 8 ⟨0, h⟩) (wb0 V c) k0_pay4
  | n + 1, h => dgB (grid0.coords ⟨n + 1, h⟩) (iblk0 V c 0 ⟨n + 1, h⟩) (iblk0 V c 1 ⟨n + 1, h⟩) (iblk0 V c 2 ⟨n + 1, h⟩) (iblk0 V c 3 ⟨n + 1, h⟩) (iblk0 V c 8 ⟨n + 1, h⟩) (wb0 V c)
      (dgAt c n (Nat.lt_of_succ_lt h))

/-- The shift gradient after point `n`. -/
def dbAt (c : Dev nD) : (n : ℕ) → n < cfg0.N → Vec F S1x2304 .f32
  | 0, h => dbB (iblk0 V c 8 ⟨0, h⟩) (wb0 V c) k0_pay5
  | n + 1, h => dbB (iblk0 V c 8 ⟨n + 1, h⟩) (wb0 V c) (dbAt c n (Nat.lt_of_succ_lt h))

/-- The input-gradient block of point `t`. -/
def dxAt (c : Dev nD) (t : Fin cfg0.N) : Vec F S512x2304 .bf16 :=
  dxB (grid0.coords t) (iblk0 V c 0 t) (iblk0 V c 1 t) (iblk0 V c 2 t) (iblk0 V c 3 t) (iblk0 V c 4 t) (iblk0 V c 8 t) (wb0 V c)

/-- The transposed layer-norm block of point `t`. -/
def xtAt (c : Dev nD) (t : Fin cfg0.N) : Vec F S2304x512 .bf16 :=
  xtB (grid0.coords t) (iblk0 V c 0 t) (iblk0 V c 1 t) (iblk0 V c 2 t) (iblk0 V c 3 t) (iblk0 V c 4 t) (iblk0 V c 5 t)

/-- The invariant before point `n`: at the start the frame kit's own; afterwards the scratch holds the dequantised weights. -/
def PhiS (c : Dev nD) : (n : ℕ) → n ≤ cfg0.N → sProp 𝕄
  | 0, _ => Pipeline.ΦA spec0 c
  | n + 1, _ => iprop(iprop(owns (c : Thread nD τ) scM0_0 fullShare (wb0 V c) ∗ rest0 c) ∗ (∃ r, prngReg c r))

theorem PhiS_pos (c : Dev nD) (n : ℕ) (h : n ≤ cfg0.N) (hz : n ≠ 0) :
    PhiS V c n h = iprop(iprop(owns (c : Thread nD τ) scM0_0 fullShare (wb0 V c) ∗ rest0 c) ∗ (∃ r, prngReg c r)) := by
  cases n with
  | zero => exact absurd rfl hz
  | succ n => rfl

/-! ## The pipeline's proof data -/

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => dxAt V c t
    | ⟨10, _⟩ => xtAt V c t
    | ⟨11, _⟩ => dgAt V c t.val t.isLt
    | ⟨12, _⟩ => dbAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = dxAt V c t := by dsimp only [dat0]
theorem after0_10 (c : Dev nD) (t : Fin cfg0.N) : (dat0 V c).after 10 t = xtAt V c t := by dsimp only [dat0]
theorem after0_11 (c : Dev nD) (t : Fin cfg0.N) : (dat0 V c).after 11 t = dgAt V c t.val t.isLt := by dsimp only [dat0]
theorem after0_12 (c : Dev nD) (t : Fin cfg0.N) : (dat0 V c).after 12 t = dbAt V c t.val t.isLt := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]) t d).trans
    (by unfold Dat.fetched Dat.blockOf iblk0; rw [A_eq0]; try rfl)
theorem before0_11_later (c : Dev nD) (t : Fin cfg0.N) (h0 : ¬t.val % 4 = 0) (d) :
    (dat0 V c).before 11 t d = dgAt V c (t.val - 1) (Nat.lt_of_le_of_lt (Nat.sub_le _ _) t.isLt) := by
  have hN : t.val < 4 := lt_of_lt_of_eq t.isLt (show cfg0.N = 4 from N_0)
  rw [Dat.before_out_kept _ 11 rfl t (by omega) (Bool.eq_false_iff.mpr fun h => by have := (flush0_11 _).mp h; dsimp only at this; omega)
    (fun _ => rfl) (fun _ _ => rfl)]
  dsimp only [dat0]
theorem before0_12_later (c : Dev nD) (t : Fin cfg0.N) (h0 : ¬t.val % 4 = 0) (d) :
    (dat0 V c).before 12 t d = dbAt V c (t.val - 1) (Nat.lt_of_le_of_lt (Nat.sub_le _ _) t.isLt) := by
  have hN : t.val < 4 := lt_of_lt_of_eq t.isLt (show cfg0.N = 4 from N_0)
  rw [Dat.before_out_kept _ 12 rfl t (by omega) (Bool.eq_false_iff.mpr fun h => by have := (flush0_12 _).mp h; dsimp only at this; omega)
    (fun _ => rfl) (fun _ _ => rfl)]
  dsimp only [dat0]

theorem dgAt_later (c : Dev nD) (t : Fin cfg0.N) (h0 : ¬t.val % 4 = 0) :
    dgAt V c t.val t.isLt = dgB (grid0.coords t) (iblk0 V c 0 t) (iblk0 V c 1 t) (iblk0 V c 2 t) (iblk0 V c 3 t) (iblk0 V c 8 t) (wb0 V c)
      (dgAt V c (t.val - 1) (Nat.lt_of_le_of_lt (Nat.sub_le _ _) t.isLt)) := by
  obtain ⟨n, hn⟩ := t
  cases n with
  | zero => exact absurd rfl h0
  | succ n => rfl

theorem dbAt_later (c : Dev nD) (t : Fin cfg0.N) (h0 : ¬t.val % 4 = 0) :
    dbAt V c t.val t.isLt = dbB (iblk0 V c 8 t) (wb0 V c) (dbAt V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t))

set_option maxHeartbeats 2400000 in
/-- The body at any point: at the first it fills the scratch and starts the two gradients, afterwards it reads the
    scratch and adds to what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9, after0_10, after0_11, after0_12]
  rw [show (dat0 V c).Φ t.castSucc = PhiS V c t.val (Nat.le_of_lt t.isLt) from rfl,
    show (dat0 V c).Φ t.succ = iprop(iprop(owns (c : Thread nD τ) scM0_0 fullShare (wb0 V c) ∗ rest0 c) ∗ (∃ r, prngReg c r)) from rfl]
  have hN : t.val < 4 := lt_of_lt_of_eq t.isLt (show cfg0.N = 4 from N_0)
  by_cases h0 : t.val % 4 = 0
  · obtain rfl : t = pt0 := Fin.ext (show t.val = 0 by omega)
    rw [show PhiS V c (pt0 : Fin cfg0.N).val (Nat.le_of_lt (pt0 : Fin cfg0.N).isLt) = Pipeline.ΦA spec0 c from rfl, PhiA0_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_first c (grid0.coords pt0) _ _ _ _ _ _ _ _ _ _ _ _ _ _ _ _ _ _ _ _ _ _ _ _ _ _ _ _ (iblk0 V c 0 pt0) (iblk0 V c 1 pt0) (iblk0 V c 2 pt0) (iblk0 V c 3 pt0) (iblk0 V c 4 pt0) (iblk0 V c 5 pt0) (iblk0 V c 6 pt0) (iblk0 V c 7 pt0) (iblk0 V c 8 pt0) ((hcond0 pt0).mpr h0) Set.univ _)
    unfold inputs outputs
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexists _; iexact H11
    isplitl [H12]; · iexists _; iexact H12
    isplitl [HS0]; · iexact HS0
    iintro ⟨⟨H0, H1, H2, H3, H4, H5, H6, H7, H8⟩, H9, H10, H11, H12, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [PhiS_pos V c t.val _ (fun h => h0 (by rw [h]))]
    simp only [before0_11_later V c t h0, before0_12_later V c t h0]
    rw [dgAt_later V c t h0, dbAt_later V c t h0]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_later c (grid0.coords t) _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (wb0 V c) (dgAt V c (t.val - 1) (Nat.lt_of_le_of_lt (Nat.sub_le _ _) t.isLt)) (dbAt V c (t.val - 1) (Nat.lt_of_le_of_lt (Nat.sub_le _ _) t.isLt)) (fun h => h0 ((hcond0 t).mp h)) Set.univ _)
    unfold inputs outputs
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexact H11
    isplitl [H12]; · iexact H12
    isplitl [HS0]; · iexact HS0
    iintro ⟨⟨H0, H1, H2, H3, H4, H5, H6, H7, H8⟩, H9, H10, H11, H12, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Before the first point the invariant is the frame kit's; -/
theorem hin0 (c : Dev nD) : Pipeline.ΦA spec0 c ⊢ (dat0 V c).Φ 0 := .rfl

/-- and after the last it gives the frame kit's back. -/
theorem hout0 (c : Dev nD) : (dat0 V c).Φ (Fin.last cfg0.N) ⊢ Pipeline.ΦA spec0 c := by
  rw [PhiA0_eq, show (dat0 V c).Φ (Fin.last cfg0.N)
    = iprop(iprop(owns (c : Thread nD τ) scM0_0 fullShare (wb0 V c) ∗ rest0 c) ∗ (∃ r, prngReg c r)) from
      PhiS_pos V c cfg0.N le_rfl (by rw [show cfg0.N = 4 from N_0]; decide)]
  iintro ⟨⟨HS0, HR⟩, Hg⟩
  isplitl [HS0 HR]
  · isplitl [HS0]
    · iexists _; iexact HS0
    iexact HR
  iexact Hg

end Cert.KernelIdeal.Whole

end
-- ==== Proof.Kern.Region1Ideal.lean ====
/- The second pallas_call's grid run: one product of a block of rows with a block of columns at every point. -/
module

public import proofs.«01_k».proof.Proof.Kern.BodyIdeal

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output window's buffer, from the input windows' blocks. -/
def out1_2 (x0 : Vec F S768x2048 .bf16) (x1 : Vec F S2048x1024 .bf16) : Vec F S768x1024 .f32 := k1_pay1 x0 x1

/-! ## The body's triple -/

set_option maxHeartbeats 1000000 in
/-- The kernel body on whole staging buffers: it leaves the inputs' as they were and the output's at the block's product. -/
theorem sound_kernel1 (c : Dev nD) (E : Set ℕ) (i : grid1.Coords) (arg2 : Memref sig .tc .vmem S768x2048 .bf16) (harg2 : arg2.IsWhole) (arg3 : Memref sig .tc .vmem S2048x1024 .bf16) (harg3 : arg3.IsWhole) (arg4 : Memref sig .tc .vmem S768x1024 .f32) (harg4 : arg4.IsWhole)
    (x0 : Vec F S768x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_dw_kernel i arg2 harg2 arg3 harg3 arg4 harg4) K := by
  simp only [cc1_dw_kernel_eq_skeleton]; unfold cc1_dw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_full]
  repeat rw [View.readAt_full]
  rfl

/-! ## The pipeline's proof data -/

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.Kern.RunIdeal.lean ====
/- The whole run of @main: the contents of every buffer at each boundary between the host stretches and the two
   pallas_calls, and the run that ends at the last of them. -/
module

public import proofs.«01_k».proof.Proof.Kern.Region0Ideal
public import proofs.«01_k».proof.Proof.Kern.Region1Ideal
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,. -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]; refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of @main ends, nothing faulting, with every unscoped buffer of every core at the last
    boundary's contents `W4` and every semaphore counter at zero. -/
theorem run_all : θ_run defs (onTc (τ := τ) (main (F := F))) ⟨m, fun _ => 0, ρ⟩ (fun r =>
      (∀ c : Dev nD, ∀ b ∈ Pipeline.ucRefs τ sig, r.2.mem ((c.tc : Thread nD τ).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => by
    have hr : ∀ c : Dev nD, ∀ a ∈ argRefs, ¬ (Proc.devRef .tc a : DevRef τ sig).isScoped →
        r.2.mem ((c.tc : Thread nD τ).loc a) = m ((c.tc : Thread nD τ).loc a) :=
      fun c a ha hs => (h.1 c _ (mem_uc a hs)).trans (W4_args m ρ c a ha)
    exact ⟨fun c => ⟨hr c main_arg0 (by decide) (by decide), hr c main_arg1 (by decide) (by decide), hr c main_arg2 (by decide) (by decide), hr c main_arg3 (by decide) (by decide), hr c main_arg4 (by decide) (by decide), hr c main_arg5 (by decide) (by decide), hr c main_arg6 (by decide) (by decide), hr c main_arg7 (by decide) (by decide), hr c main_arg8 (by decide) (by decide)⟩, h.2⟩) (run_all m ρ)

end Cert.KernelIdeal.Whole

end
-- ==== Proof.Value.Spec.lean ====
/- What the four results are, as functions of the argument arrays over the extended reals: the mathematics that the
   kernel's blocks and the reference's operations are both read against. -/
module

public import Mathlib.Data.EReal.Operations
public import Mathlib.Algebra.BigOperators.Fin

@[expose] public section

noncomputable section

namespace Cert.Spec

/-- The normalised entry: the dequantised input minus the mean, times the reciprocal standard deviation. -/
def nrm (x xs mean rstd : EReal) : EReal := (x * xs - mean) * rstd

/-- The gradient of the layer-norm output at channel `d`: one token's output gradient `dq` against the dequantised weights. -/
def hid (dq : Fin 4096 → EReal) (w : Fin 2304 → Fin 4096 → EReal) (d : Fin 2304) : EReal := ∑ k : Fin 4096, dq k * w d k

/-- One token's input gradient at channel `d`, from its reciprocal standard deviation `r`, its normalised entries `n`,
    the gradient `h` of its layer-norm output and the scale `gam`. -/
def dxRow (r : EReal) (n h gam : Fin 2304 → EReal) (d : Fin 2304) : EReal :=
  r * ((h d * gam d - (∑ k : Fin 2304, h k * gam k) * ((1 / 2304 : ℝ) : EReal))
    - n d * ((∑ k : Fin 2304, h k * gam k * n k) * ((1 / 2304 : ℝ) : EReal)))

/-- The nine argument arrays, as functions of their coordinates. -/
structure Ins where
  /-- the quantised input -/
  x : Fin 2 → Fin 1024 → Fin 2304 → EReal
  /-- its scale, per token -/
  xs : Fin 2 → Fin 1024 → EReal
  /-- the reciprocal standard deviation, per token -/
  rstd : Fin 2 → Fin 1024 → EReal
  /-- the mean, per token -/
  mean : Fin 2 → Fin 1024 → EReal
  /-- the scale of the layer norm -/
  gam : Fin 2304 → EReal
  /-- the shift of the layer norm -/
  bet : Fin 2304 → EReal
  /-- the quantised weights -/
  w : Fin 2304 → Fin 4096 → EReal
  /-- their scale, per output column -/
  ws : Fin 4096 → EReal
  /-- the output gradient -/
  dq : Fin 2 → Fin 1024 → Fin 4096 → EReal

namespace Ins

variable (A : Ins)

/-- The dequantised weights. -/
def wd (d : Fin 2304) (k : Fin 4096) : EReal := A.w d k * A.ws k

/-- The normalised input. -/
def n (b : Fin 2) (s : Fin 1024) (d : Fin 2304) : EReal := nrm (A.x b s d) (A.xs b s) (A.mean b s) (A.rstd b s)

/-- The layer-norm output. -/
def y (b : Fin 2) (s : Fin 1024) (d : Fin 2304) : EReal := A.n b s d * A.gam d + A.bet d

/-- The gradient of the layer-norm output. -/
def h (b : Fin 2) (s : Fin 1024) (d : Fin 2304) : EReal := hid (A.dq b s) A.wd d

/-- The input gradient. -/
def dx (b : Fin 2) (s : Fin 1024) (d : Fin 2304) : EReal := dxRow (A.rstd b s) (A.n b s) (A.h b s) A.gam d

/-- The weight gradient. -/
def dW (d : Fin 2304) (k : Fin 4096) : EReal := ∑ b : Fin 2, ∑ s : Fin 1024, A.y b s d * A.dq b s k

/-- The scale gradient. -/
def dg (d : Fin 2304) : EReal := ∑ b : Fin 2, ∑ s : Fin 1024, A.h b s d * A.n b s d

/-- The shift gradient. -/
def db (d : Fin 2304) : EReal := ∑ b : Fin 2, ∑ s : Fin 1024, A.h b s d

end Ins

/-! ## Tokens in tiles of 512 -/

/-- The batch of token `r` of tile `t`. -/
def tokB (t : Fin 4) : Fin 2 := ⟨t.val / 2, by omega⟩
/-- The position of token `r` of tile `t` in its batch. -/
def tokS (t : Fin 4) (r : Fin 512) : Fin 1024 := ⟨t.val % 2 * 512 + r.val, by omega⟩
/-- The batch of token `q`, of all 2048. -/
def tokB' (q : Fin 2048) : Fin 2 := ⟨q.val / 1024, by omega⟩
/-- The position of token `q`, of all 2048, in its batch. -/
def tokS' (q : Fin 2048) : Fin 1024 := ⟨q.val % 1024, by omega⟩

/-- A sum over all 2048 tokens is the sum over the batches and the positions in them. -/
theorem sum_tok' (f : Fin 2 → Fin 1024 → EReal) : ∑ q : Fin 2048, f (tokB' q) (tokS' q) = ∑ b : Fin 2, ∑ s : Fin 1024, f b s := by
  rw [← Fintype.sum_prod_type']
  refine Fintype.sum_equiv ⟨fun q => (tokB' q, tokS' q), fun p => ⟨p.1.val * 1024 + p.2.val, by omega⟩, ?_, ?_⟩ _ _ (fun q => rfl)
  · intro q; refine Fin.ext ?_; simp only [tokB', tokS']; omega
  · rintro ⟨b, s⟩; refine Prod.ext (Fin.ext ?_) (Fin.ext ?_) <;> simp only [tokB', tokS'] <;> omega

/-- A sum over the four tiles and the 512 tokens of each is the sum over the batches and the positions in them. -/
theorem sum_tok (f : Fin 2 → Fin 1024 → EReal) : ∑ t : Fin 4, ∑ r : Fin 512, f (tokB t) (tokS t r) = ∑ b : Fin 2, ∑ s : Fin 1024, f b s := by
  rw [← Fintype.sum_prod_type', ← Fintype.sum_prod_type']
  refine Fintype.sum_equiv ⟨fun p => (tokB p.1, tokS p.1 p.2), fun p => (⟨p.1.val * 2 + p.2.val / 512, by omega⟩, ⟨p.2.val % 512, by omega⟩), ?_, ?_⟩ _ _ (fun q => rfl)
  · rintro ⟨t, r⟩; refine Prod.ext (Fin.ext ?_) (Fin.ext ?_) <;> simp only [tokB, tokS] <;> omega
  · rintro ⟨b, s⟩; refine Prod.ext (Fin.ext ?_) (Fin.ext ?_) <;> simp only [tokB, tokS] <;> omega

end Cert.Spec

end
-- ==== Proof.Value.Layout.lean ====
/- Layout operations of two-axis arrays read at an index: broadcasts of a row and of a column, the transpose, and a
   vector as one row. -/
module

public import Idealize.ShloMosaic.Lib.Pipeline.Value
public import Idealize.ShloMosaic.Lib.ValueIdx
public import Idealize.ShloMosaic.Lib.ValueLayoutCasts

@[expose] public section

noncomputable section

namespace Cert.Lay

open Idealize.ShloMosaic Idealize.ShloMosaic.ValueIdx

variable {α : Type} {a b : ℕ}

/-- A column broadcast along the second axis reads, at `(i, j)`, the column at `i`. -/
theorem bcol (x : (⟨2, ![a, 1]⟩ : Shape).Idx → α) (h : (⟨2, ![a, 1]⟩ : Shape).Broadcasts ⟨2, ![a, b]⟩) (i : Fin a) (j : Fin b) :
    broadcastTo ⟨2, ![a, b]⟩ x h (ix2 i j) = x (ix2 i 0) :=
  broadcastTo_apply x h _ _ (fun c => by
    match c with
    | ⟨0, _⟩ =>
      show i.val = if a = 1 then 0 else i.val
      split <;> omega
    | ⟨1, _⟩ => rfl)

/-- A row broadcast along the first axis reads, at `(i, j)`, the row at `j`. -/
theorem brow (x : (⟨2, ![1, b]⟩ : Shape).Idx → α) (h : (⟨2, ![1, b]⟩ : Shape).Broadcasts ⟨2, ![a, b]⟩) (i : Fin a) (j : Fin b) :
    broadcastTo ⟨2, ![a, b]⟩ x h (ix2 i j) = x (ix2 0 j) :=
  broadcastTo_apply x h _ _ (fun c => by
    match c with
    | ⟨0, _⟩ => rfl
    | ⟨1, _⟩ =>
      show j.val = if b = 1 then 0 else j.val
      split <;> omega)

/-- The transpose reads, at `(i, j)`, the array at `(j, i)`. -/
theorem tr (x : (⟨2, ![b, a]⟩ : Shape).Idx → α) (h : (⟨2, ![b, a]⟩ : Shape).Transposes [1, 0] ⟨2, ![a, b]⟩) (i : Fin a) (j : Fin b) :
    transpose ⟨2, ![a, b]⟩ [1, 0] x h (ix2 i j) = x (ix2 j i) :=
  transpose_apply _ x h _ _ (fun c => by
    match c with
    | ⟨0, _⟩ => rfl
    | ⟨1, _⟩ => rfl)

/-- A vector cast to one row reads, at `(u, j)`, the vector at `j`. -/
theorem castRow (x : (⟨1, ![b]⟩ : Shape).Idx → α) (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]; omega)

/-- Two axes flattened to one: at `(q, j)` the three-axis array at `(b, s, j)`, where `q` counts `(b, s)`. -/
theorem flat {c : ℕ} (x : (⟨3, ![a, b, c]⟩ : Shape).Idx → α) {ab : ℕ} (h : (⟨3, ![a, b, c]⟩ : Shape).ShapeCasts ⟨2, ![ab, c]⟩)
    (q : Fin ab) (j : Fin c) (i : Fin a) (s : Fin b) (hq : q.val = i.val * b + s.val) :
    shapeCast ⟨2, ![ab, c]⟩ x h (ix2 q j) = x (ix3 i s j) :=
  shapeCast_apply x h _ _ (by
    rw [Shape.rowMajor_val_two, Shape.rowMajor_val_three]
    show (i.val * b + s.val) * c + j.val = q.val * c + j.val
    rw [hq])

/-- One axis split in two: at `(b, s, j)` the two-axis array at `(q, j)`, where `q` counts `(b, s)`. -/
theorem unflat {c : ℕ} {ab : ℕ} (x : (⟨2, ![ab, c]⟩ : Shape).Idx → α) (h : (⟨2, ![ab, c]⟩ : Shape).ShapeCasts ⟨3, ![a, b, c]⟩)
    (q : Fin ab) (j : Fin c) (i : Fin a) (s : Fin b) (hq : q.val = i.val * b + s.val) :
    shapeCast ⟨3, ![a, b, c]⟩ x h (ix3 i s j) = x (ix2 q j) :=
  shapeCast_apply x h _ _ (by
    rw [Shape.rowMajor_val_two, Shape.rowMajor_val_three]
    show q.val * c + j.val = (i.val * b + s.val) * c + j.val
    rw [hq])

/-- One row cast to a vector reads, at `j`, the row at `(0, j)`. -/
theorem uncastRow (x : (⟨2, ![1, b]⟩ : Shape).Idx → α) (h : (⟨2, ![1, b]⟩ : Shape).ShapeCasts ⟨1, ![b]⟩) (j : Fin b) :
    shapeCast ⟨1, ![b]⟩ x h (ix1 j) = x (ix2 0 j) :=
  shapeCast_apply x h _ _ (by
    rw [Shape.rowMajor_val_two, Shape.rowMajor_val_one]
    show 0 * b + j.val = j.val
    omega)

end Cert.Lay

end
-- ==== Proof.Value.Block.lean ====
/- What one grid point's payloads are at the extended reals, entry by entry. -/
module

public import proofs.«01_k».proof.Proof.Kern.BodyIdeal
public import proofs.«01_k».proof.Proof.Kern.Region1Ideal
public import proofs.«01_k».proof.Proof.Value.Spec
public import proofs.«01_k».proof.Proof.Value.Layout
public import Idealize.ShloMosaic.Lib.MatmulPlain
public import Idealize.ShloMosaic.PureOps.Ideal.Laws

@[expose] public section

set_option maxRecDepth 16384

noncomputable section

namespace Cert.KernelIdeal.Whole

open Cert.KernelIdeal.Gen
open Idealize.ShloMosaic Idealize.ShloMosaic.TcCoe Idealize.ShloMosaic.ValueIdx
open Cert.Spec

/-- The named reciprocal is the rational 1/2304. -/
theorem inv_d : Named.named (F := Ideal) Cert.KernelIdeal.κ "inv_d" (φ := .f32) 0x39E38E39#32 = ((1 / 2304 : ℝ) : EReal) :=
  IdealRules.named_const.ideal_named_scalar _ _ _ _ rfl

/-- A block sum along the channels, at token `r`. -/
theorem rowSum (v : FVec Ideal S512x2304 .f32) (r : Fin 512) :
    multiReduction (F := Ideal) .add [1] S512 v 0x00000000#32 reduces_S512x2304_S512 (.inl rfl) rfl (ix1 r) = ∑ k : Fin 2304, v (ix2 r k) := by
  refine (Ideal.multiReduction_add_single v _ _ _ _ _).trans ?_
  refine Finset.sum_congr rfl fun k _ => congrArg v ?_
  funext c; match c with | ⟨0, _⟩ => rfl | ⟨1, _⟩ => rfl

/-- A block sum along the tokens, at channel `d`. -/
theorem colSum (v : FVec Ideal S512x2304 .f32) (d : Fin 2304) :
    multiReduction (F := Ideal) .add [0] S2304 v 0x00000000#32 reduces_S512x2304_S2304 (.inl rfl) rfl (ix1 d) = ∑ r : Fin 512, v (ix2 r d) := by
  refine (Ideal.multiReduction_add_single v _ _ _ _ _).trans ?_
  refine Finset.sum_congr rfl fun k _ => congrArg v ?_
  funext c; match c with | ⟨0, _⟩ => rfl | ⟨1, _⟩ => rfl

/-- The dequantised weights at an entry. -/
theorem wbB_apply (x6 : Vec Ideal S2304x4096 .fp8e4m3) (x7 : Vec Ideal S1x4096 .f32) (d : Fin 2304) (k : Fin 4096) :
    wbB (F := Ideal) x6 x7 (ix2 d k) = (x6 (ix2 d k) : EReal) * (x7 (ix2 0 k) : EReal) := by
  unfold wbB k0_pay3
  simp only [shapeCast_self]
  show (x6 (ix2 d k) : EReal) * _ = _
  exact congrArg (fun z : EReal => (x6 (ix2 d k) : EReal) * z) (Cert.Lay.brow _ _ d k)

theorem pay6_apply (v : Vec Ideal S1x512 .f32) (r : Fin 512) : k0_pay6 (F := Ideal) v (ix2 r 0) = v (ix2 0 r) :=
  Cert.Lay.tr _ _ r 0
theorem pay7_apply (v : Vec Ideal S1x512 .f32) (r : Fin 512) : k0_pay7 (F := Ideal) v (ix2 r 0) = v (ix2 0 r) :=
  Cert.Lay.tr _ _ r 0

/-- The normalised entry of a block. -/
theorem pay9_apply (a b : Vec Ideal S1x512 .f32) (v : Vec Ideal S1x512 .f32) (x : Vec Ideal S512x2304 .fp8e4m3) (r : Fin 512) (d : Fin 2304) :
    k0_pay9 (F := Ideal) (k0_pay6 a) (k0_pay7 b) v x (ix2 r d) = nrm (x (ix2 r d)) (a (ix2 0 r)) (v (ix2 0 r)) (b (ix2 0 r)) := by
  unfold k0_pay9 nrm
  simp only [shapeCast_self]
  show ((x (ix2 r d) : EReal) * (broadcastTo S512x2304 (k0_pay6 (F := Ideal) a) broadcasts_S512x1_S512x2304 (ix2 r d) : EReal)
    - (broadcastTo S512x2304 (transpose S512x1 [1, 0] v transposes_S1x512_p1_0_S512x1) broadcasts_S512x1_S512x2304 (ix2 r d) : EReal))
    * (broadcastTo S512x2304 (k0_pay7 (F := Ideal) b) broadcasts_S512x1_S512x2304 (ix2 r d) : EReal) = _
  rw [Cert.Lay.bcol, Cert.Lay.bcol, Cert.Lay.bcol, pay6_apply, pay7_apply, Cert.Lay.tr]

/-- The gradient of the layer-norm output at an entry of a block. -/
theorem pay11_apply (x8 : Vec Ideal S512x4096 .bf16) (wb : Vec Ideal S2304x4096 .bf16) (r : Fin 512) (d : Fin 2304) :
    k0_pay11 (F := Ideal) x8 wb (ix2 r d) = hid (fun k => x8 (ix2 r k)) (fun e k => wb (ix2 e k)) d := by
  unfold k0_pay11 hid
  simp only [shapeCast_self]
  refine (Ideal.matmul_transposedRhs_apply (M := 512) (K := 4096) (N := 2304) none x8 wb _ r d).trans ?_
  show Ideal.ofBits .f32 0x00000000#32 + _ = _
  rw [Ideal.ofBits_zero_f32, zero_add]

/-- The input gradient at an entry of a block. -/
theorem pay2_apply (b : Vec Ideal S1x512 .f32) (gam : Vec Ideal S1x2304 .f32) (n h : FVec Ideal S512x2304 .f32) (r : Fin 512) (d : Fin 2304) :
    k0_pay2 (F := Ideal) (k0_pay7 b) (k0_pay8 gam) n h (ix2 r d)
      = dxRow (b (ix2 0 r)) (fun k => n (ix2 r k)) (fun k => h (ix2 r k)) (fun k => gam (ix2 0 k)) d := by
  unfold k0_pay2 k0_pay8 dxRow
  simp only [shapeCast_self, inv_d]
  have g1 : ∀ k : Fin 2304, (mulf h (broadcastTo S512x2304 gam broadcasts_S1x2304_S512x2304) : FVec Ideal S512x2304 .f32) (ix2 r k)
      = (h (ix2 r k) : EReal) * (gam (ix2 0 k) : EReal) := fun k =>
    congrArg (fun z : EReal => (h (ix2 r k) : EReal) * z) (Cert.Lay.brow _ _ r k)
  show (broadcastTo S512x2304 (k0_pay7 (F := Ideal) b) broadcasts_S512x1_S512x2304 (ix2 r d) : EReal)
    * (((mulf h (broadcastTo S512x2304 gam broadcasts_S1x2304_S512x2304) : FVec Ideal S512x2304 .f32) (ix2 r d)
      - (broadcastTo S512x2304 (_ : S512x1.Idx → EReal) broadcasts_S512x1_S512x2304 (ix2 r d) : EReal))
      - (n (ix2 r d) : EReal) * (broadcastTo S512x2304 (_ : S512x1.Idx → EReal) broadcasts_S512x1_S512x2304 (ix2 r d) : EReal)) = _
  rw [Cert.Lay.bcol, Cert.Lay.bcol, Cert.Lay.bcol, pay7_apply, g1]
  have m1 : ∀ v : FVec Ideal S512x2304 .f32, (mulf (shapeCast S512x1 (multiReduction (F := Ideal) .add [1] S512 v 0x00000000#32 reduces_S512x2304_S512 (.inl rfl) rfl) shapeCasts_S512_S512x1)
      (broadcast S512x1 (((1 / 2304 : ℝ) : EReal) : Ideal .f32)) : FVec Ideal S512x1 .f32) (ix2 r 0) = (∑ k : Fin 2304, v (ix2 r k)) * ((1 / 2304 : ℝ) : EReal) := fun v =>
    congrArg (fun z : EReal => z * ((1 / 2304 : ℝ) : EReal)) ((shapeCast_a_a1_apply _ _ r 0).trans (rowSum v r))
  rw [m1, m1]
  have g2 : ∀ k : Fin 2304, (broadcastTo S512x2304 gam broadcasts_S1x2304_S512x2304 : S512x2304.Idx → EReal) (ix2 r k) = gam (ix2 0 k) :=
    fun k => Cert.Lay.brow _ _ r k
  simp only [mulf_apply, g2]

/-- The layer-norm output at an entry of a (transposed) block. -/
theorem pay10_apply (a b v : Vec Ideal S1x512 .f32) (gam : Vec Ideal S1x2304 .f32) (x : Vec Ideal S512x2304 .fp8e4m3) (bet : Vec Ideal S1x2304 .f32)
    (d : Fin 2304) (r : Fin 512) :
    k0_pay10 (F := Ideal) (k0_pay6 a) (k0_pay7 b) v gam x bet (ix2 d r)
      = nrm (x (ix2 r d)) (a (ix2 0 r)) (v (ix2 0 r)) (b (ix2 0 r)) * (gam (ix2 0 d) : EReal) + (bet (ix2 0 d) : EReal) := by
  unfold k0_pay10 k0_pay8
  simp only [shapeCast_self]
  refine (Cert.Lay.tr _ _ d r).trans ?_
  show (k0_pay9 (F := Ideal) (k0_pay6 a) (k0_pay7 b) v x (ix2 r d) : EReal) * (broadcastTo S512x2304 gam broadcasts_S1x2304_S512x2304 (ix2 r d) : EReal)
    + (broadcastTo S512x2304 bet broadcasts_S1x2304_S512x2304 (ix2 r d) : EReal) = _
  rw [Cert.Lay.brow, Cert.Lay.brow, pay9_apply]

/-- The scale gradient after a grid point: what it was, plus the point's column sums. -/
theorem pay12_apply (a b v : Vec Ideal S1x512 .f32) (x : Vec Ideal S512x2304 .fp8e4m3) (x8 : Vec Ideal S512x4096 .bf16)
    (wb : Vec Ideal S2304x4096 .bf16) (g : Vec Ideal S1x2304 .f32) (d : Fin 2304) :
    k0_pay12 (F := Ideal) (k0_pay6 a) (k0_pay7 b) v x x8 wb g (ix2 0 d)
      = (g (ix2 0 d) : EReal) + ∑ r : Fin 512, hid (fun k => x8 (ix2 r k)) (fun e k => wb (ix2 e k)) d
          * nrm (x (ix2 r d)) (a (ix2 0 r)) (v (ix2 0 r)) (b (ix2 0 r)) := by
  unfold k0_pay12
  simp only [shapeCast_self]
  refine congrArg (fun z : EReal => (g (ix2 0 d) : EReal) + z) ((Cert.Lay.castRow _ _ 0 d).trans ((colSum _ d).trans ?_))
  refine Finset.sum_congr rfl fun r _ => ?_
  rw [mulf_apply, pay11_apply, pay9_apply]

/-- The shift gradient after a grid point: what it was, plus the point's column sums. -/
theorem dbB_apply (x8 : Vec Ideal S512x4096 .bf16) (wb : Vec Ideal S2304x4096 .bf16) (g : Vec Ideal S1x2304 .f32) (d : Fin 2304) :
    dbB (F := Ideal) x8 wb g (ix2 0 d)
      = (g (ix2 0 d) : EReal) + ∑ r : Fin 512, hid (fun k => x8 (ix2 r k)) (fun e k => wb (ix2 e k)) d := by
  unfold dbB k0_pay1 k0_pay13 k0_pay14
  simp only [shapeCast_self]
  refine congrArg (fun z : EReal => (g (ix2 0 d) : EReal) + z) ((Cert.Lay.castRow _ _ 0 d).trans ((colSum _ d).trans ?_))
  exact Finset.sum_congr rfl fun r _ => pay11_apply _ _ _ _

/-- The gradients start at zero. -/
theorem pay4_apply (j : S1x2304.Idx) : k0_pay4 (F := Ideal) j = (0 : EReal) := Ideal.ofBits_zero_f32
theorem pay5_apply (j : S1x2304.Idx) : k0_pay5 (F := Ideal) j = (0 : EReal) := Ideal.ofBits_zero_f32

/-- The second call's block: a product over all 2048 tokens. -/
theorem out1_apply (x0 : Vec Ideal S768x2048 .bf16) (x1 : Vec Ideal S2048x1024 .bf16) (i : Fin 768) (j : Fin 1024) :
    out1_2 (F := Ideal) x0 x1 (ix2 i j) = ∑ q : Fin 2048, (x0 (ix2 i q) : EReal) * (x1 (ix2 q j) : EReal) := by
  unfold out1_2 k1_pay1
  simp only [shapeCast_self]
  refine (Ideal.matmul_plain_apply (M := 768) (K := 2048) (N := 1024) none x0 x1 _ i j).trans ?_
  show Ideal.ofBits .f32 0x00000000#32 + _ = _
  rw [Ideal.ofBits_zero_f32, zero_add]

end Cert.KernelIdeal.Whole

end
-- ==== Proof.Value.Entry.lean ====
/- What the first call's input blocks hold, entry by entry, in terms of the argument arrays: the host's reshapes read
   at an index, and each window's block read off its array. -/
module

public import proofs.«01_k».proof.Proof.Kern.RunIdeal
public import proofs.«01_k».proof.Proof.Value.Block

@[expose] public section

set_option maxRecDepth 16384

noncomputable section

namespace Cert.KernelIdeal.Whole

open Cert.KernelIdeal.Gen
open Idealize.ShloMosaic Idealize.ShloMosaic.TcCoe Idealize.ShloMosaic.ValueIdx Idealize.ShloMosaic.StableHlo
open Cert.Spec

variable (m : (ℓ : Loc nD τ sig) → Buf (Elt Ideal) ℓ) (ρ : Dev nD → PrngReg)

/-- The nine argument arrays on core `c`. -/
def ins (c : Dev nD) : Ins where
  x b s d := m ((c : Thread nD τ).loc main_arg0) (ix3 b s d)
  xs b s := m ((c : Thread nD τ).loc main_arg1) (ix2 b s)
  rstd b s := m ((c : Thread nD τ).loc main_arg2) (ix2 b s)
  mean b s := m ((c : Thread nD τ).loc main_arg3) (ix2 b s)
  gam d := m ((c : Thread nD τ).loc main_arg4) (ix1 d)
  bet d := m ((c : Thread nD τ).loc main_arg5) (ix1 d)
  w d k := m ((c : Thread nD τ).loc main_arg6) (ix2 d k)
  ws k := m ((c : Thread nD τ).loc main_arg7) (ix1 k)
  dq b s k := m ((c : Thread nD τ).loc main_arg8) (ix3 b s k)

/-! ## The host's reshapes -/

theorem v0_eq (c : Dev nD) : V1 m ρ c main_v0 = shapeCast S2048x2304 (m ((c : Thread nD τ).loc main_arg0)) shapeCasts_S2x1024x2304_S2048x2304 := by
  show StableHlo.after hostOps0 (W0 m ρ c) (Proc.devRef .tc main_v0) = _
  simp only [hostOps0]
  after_results_simp; rfl
theorem v1_eq (c : Dev nD) : V1 m ρ c main_v1 = shapeCast S2048x4096 (m ((c : Thread nD τ).loc main_arg8)) shapeCasts_S2x1024x4096_S2048x4096 := by
  show StableHlo.after hostOps0 (W0 m ρ c) (Proc.devRef .tc main_v1) = _
  simp only [hostOps0]
  after_results_simp; rfl
theorem v2_eq (c : Dev nD) : V1 m ρ c main_v2 = shapeCast S1x2304 (m ((c : Thread nD τ).loc main_arg4)) shapeCasts_S2304_S1x2304 := by
  show StableHlo.after hostOps0 (W0 m ρ c) (Proc.devRef .tc main_v2) = _
  simp only [hostOps0]
  after_results_simp; rfl
theorem v3_eq (c : Dev nD) : V1 m ρ c main_v3 = shapeCast S1x2304 (m ((c : Thread nD τ).loc main_arg5)) shapeCasts_S2304_S1x2304 := by
  show StableHlo.after hostOps0 (W0 m ρ c) (Proc.devRef .tc main_v3) = _
  simp only [hostOps0]
  after_results_simp; rfl
theorem v4_eq (c : Dev nD) : V1 m ρ c main_v4 = shapeCast S1x4096 (m ((c : Thread nD τ).loc main_arg7)) shapeCasts_S4096_S1x4096 := by
  show StableHlo.after hostOps0 (W0 m ρ c) (Proc.devRef .tc main_v4) = _
  simp only [hostOps0]
  after_results_simp; rfl

/-! ## The tile of a grid point, and the windows' blocks -/

/-- The tile of 512 tokens that grid point `t` works on. -/
def tl (t : Fin cfg0.N) : Fin 4 := ⟨t.val, lt_of_lt_of_eq t.isLt N_0⟩

/-- Token `r` of the tile of point `t`, among all 2048. -/
def tok (t : Fin cfg0.N) (r : Fin 512) : Fin 2048 := ⟨t.val * 512 + r.val, by have := lt_of_lt_of_eq t.isLt N_0; omega⟩

theorem tok_val (t : Fin cfg0.N) (r : Fin 512) : (tok t r).val = (tokB (tl t)).val * 1024 + (tokS (tl t) r).val := by
  simp only [tok, tokB, tokS, tl]; have := lt_of_lt_of_eq t.isLt N_0; omega

/-- The block indices of the windows: tile `t` of the token axis, or the whole array. -/
theorem idx0_0 : ∀ t : Fin cfg0.N, win0_0.index t 0 = t.val ∧ win0_0.index t 1 = 0 := (by decide +kernel : ∀ t : Fin grid0.N, _)
theorem idx0_1 : ∀ t : Fin cfg0.N, win0_1.index t 0 = 0 ∧ win0_1.index t 1 = 0 := (by decide +kernel : ∀ t : Fin grid0.N, _)
theorem idx0_2 : ∀ t : Fin cfg0.N, win0_2.index t 0 = 0 ∧ win0_2.index t 1 = 0 := (by decide +kernel : ∀ t : Fin grid0.N, _)
theorem idx0_3 : ∀ t : Fin cfg0.N, win0_3.index t 0 = 0 ∧ win0_3.index t 1 = 0 := (by decide +kernel : ∀ t : Fin grid0.N, _)
theorem idx0_4 : ∀ t : Fin cfg0.N, win0_4.index t 0 = 0 ∧ win0_4.index t 1 = 0 := (by decide +kernel : ∀ t : Fin grid0.N, _)
theorem idx0_5 : ∀ t : Fin cfg0.N, win0_5.index t 0 = 0 ∧ win0_5.index t 1 = 0 := (by decide +kernel : ∀ t : Fin grid0.N, _)
theorem idx0_6 : ∀ t : Fin cfg0.N, win0_6.index t 0 = 0 ∧ win0_6.index t 1 = 0 := (by decide +kernel : ∀ t : Fin grid0.N, _)
theorem idx0_7 : ∀ t : Fin cfg0.N, win0_7.index t 0 = 0 ∧ win0_7.index t 1 = 0 := (by decide +kernel : ∀ t : Fin grid0.N, _)
theorem idx0_8 : ∀ t : Fin cfg0.N, win0_8.index t 0 = t.val ∧ win0_8.index t 1 = 0 := (by decide +kernel : ∀ t : Fin grid0.N, _)
theorem idx0_9 : ∀ t : Fin cfg0.N, win0_9.index t 0 = t.val ∧ win0_9.index t 1 = 0 := (by decide +kernel : ∀ t : Fin grid0.N, _)
theorem idx0_10 : ∀ t : Fin cfg0.N, win0_10.index t 0 = 0 ∧ win0_10.index t 1 = t.val := (by decide +kernel : ∀ t : Fin grid0.N, _)
theorem idx0_11 : ∀ t : Fin cfg0.N, win0_11.index t 0 = 0 ∧ win0_11.index t 1 = 0 := (by decide +kernel : ∀ t : Fin grid0.N, _)
theorem idx0_12 : ∀ t : Fin cfg0.N, win0_12.index t 0 = 0 ∧ win0_12.index t 1 = 0 := (by decide +kernel : ∀ t : Fin grid0.N, _)

/-- The rows of a token statistic a grid point loads start at its tile. -/
theorem off_eq : ∀ t : Fin cfg0.N, k0_off1 (grid0.coords t) 0 = t.val / 2 ∧ k0_off1 (grid0.coords t) 1 = t.val % 2 * 512 :=
  (by decide +kernel : ∀ t : Fin grid0.N, _)

theorem ld_row (x : Vec Ideal S2x1024 .f32) (t : Fin cfg0.N) (r : Fin 512) :
    View.ld x (rowRect (grid0.coords t)) (ix2 0 r) = x (ix2 (tokB (tl t)) (tokS (tl t) r)) := by
  refine congrArg x (funext fun a => Fin.ext ?_)
  match a with
  | ⟨0, _⟩ => show k0_off1 (grid0.coords t) 0 + 1 * 0 = t.val / 2; rw [(off_eq t).1]; omega
  | ⟨1, _⟩ => show k0_off1 (grid0.coords t) 1 + 1 * r.val = t.val % 2 * 512 + r.val; rw [(off_eq t).2]; omega

variable (V : (c : Dev nD) → (b : Ref sig .tc) → Buf (Elt Ideal) ((c : Thread nD τ).loc b))

theorem iblk0_0 (c : Dev nD) (t : Fin cfg0.N) (r : Fin 512) (d : Fin 2304) : iblk0 V c 0 t (ix2 r d) = V c main_v0 (ix2 (tok t r) d) := by
  show V c main_v0 (((cfg0.win 0).blk t).view.emb (ix2 r d)) = _
  refine congrArg (V c main_v0) (funext fun a => Fin.ext ?_)
  match a with
  | ⟨0, _⟩ => show win0_0.index t 0 * 512 + 1 * r.val = t.val * 512 + r.val; rw [(idx0_0 t).1]; omega
  | ⟨1, _⟩ => show win0_0.index t 1 * 2304 + 1 * d.val = d.val; rw [(idx0_0 t).2]; omega
theorem iblk0_8 (c : Dev nD) (t : Fin cfg0.N) (r : Fin 512) (k : Fin 4096) : iblk0 V c 8 t (ix2 r k) = V c main_v1 (ix2 (tok t r) k) := by
  show V c main_v1 (((cfg0.win 8).blk t).view.emb (ix2 r k)) = _
  refine congrArg (V c main_v1) (funext fun a => Fin.ext ?_)
  match a with
  | ⟨0, _⟩ => show win0_8.index t 0 * 512 + 1 * r.val = t.val * 512 + r.val; rw [(idx0_8 t).1]; omega
  | ⟨1, _⟩ => show win0_8.index t 1 * 4096 + 1 * k.val = k.val; rw [(idx0_8 t).2]; omega
theorem iblk0_1 (c : Dev nD) (t : Fin cfg0.N) : iblk0 V c 1 t = V c main_arg1 := by
  funext y
  show V c main_arg1 (((cfg0.win 1).blk t).view.emb y) = _
  refine congrArg (V c main_arg1) (funext fun a => Fin.ext ?_)
  match a with
  | ⟨0, _⟩ => show win0_1.index t 0 * 2 + 1 * (y 0).val = (y 0).val; rw [(idx0_1 t).1]; omega
  | ⟨1, _⟩ => show win0_1.index t 1 * 1024 + 1 * (y 1).val = (y 1).val; rw [(idx0_1 t).2]; omega
theorem iblk0_2 (c : Dev nD) (t : Fin cfg0.N) : iblk0 V c 2 t = V c main_arg2 := by
  funext y
  show V c main_arg2 (((cfg0.win 2).blk t).view.emb y) = _
  refine congrArg (V c main_arg2) (funext fun a => Fin.ext ?_)
  match a with
  | ⟨0, _⟩ => show win0_2.index t 0 * 2 + 1 * (y 0).val = (y 0).val; rw [(idx0_2 t).1]; omega
  | ⟨1, _⟩ => show win0_2.index t 1 * 1024 + 1 * (y 1).val = (y 1).val; rw [(idx0_2 t).2]; omega
theorem iblk0_3 (c : Dev nD) (t : Fin cfg0.N) : iblk0 V c 3 t = V c main_arg3 := by
  funext y
  show V c main_arg3 (((cfg0.win 3).blk t).view.emb y) = _
  refine congrArg (V c main_arg3) (funext fun a => Fin.ext ?_)
  match a with
  | ⟨0, _⟩ => show win0_3.index t 0 * 2 + 1 * (y 0).val = (y 0).val; rw [(idx0_3 t).1]; omega
  | ⟨1, _⟩ => show win0_3.index t 1 * 1024 + 1 * (y 1).val = (y 1).val; rw [(idx0_3 t).2]; omega
theorem iblk0_4 (c : Dev nD) (t : Fin cfg0.N) : iblk0 V c 4 t = V c main_v2 := by
  funext y
  show V c main_v2 (((cfg0.win 4).blk t).view.emb y) = _
  refine congrArg (V c main_v2) (funext fun a => Fin.ext ?_)
  match a with
  | ⟨0, _⟩ => show win0_4.index t 0 * 1 + 1 * (y 0).val = (y 0).val; rw [(idx0_4 t).1]; omega
  | ⟨1, _⟩ => show win0_4.index t 1 * 2304 + 1 * (y 1).val = (y 1).val; rw [(idx0_4 t).2]; omega
theorem iblk0_5 (c : Dev nD) (t : Fin cfg0.N) : iblk0 V c 5 t = V c main_v3 := by
  funext y
  show V c main_v3 (((cfg0.win 5).blk t).view.emb y) = _
  refine congrArg (V c main_v3) (funext fun a => Fin.ext ?_)
  match a with
  | ⟨0, _⟩ => show win0_5.index t 0 * 1 + 1 * (y 0).val = (y 0).val; rw [(idx0_5 t).1]; omega
  | ⟨1, _⟩ => show win0_5.index t 1 * 2304 + 1 * (y 1).val = (y 1).val; rw [(idx0_5 t).2]; omega
theorem iblk0_6 (c : Dev nD) (t : Fin cfg0.N) : iblk0 V c 6 t = V c main_arg6 := by
  funext y
  show V c main_arg6 (((cfg0.win 6).blk t).view.emb y) = _
  refine congrArg (V c main_arg6) (funext fun a => Fin.ext ?_)
  match a with
  | ⟨0, _⟩ => show win0_6.index t 0 * 2304 + 1 * (y 0).val = (y 0).val; rw [(idx0_6 t).1]; omega
  | ⟨1, _⟩ => show win0_6.index t 1 * 4096 + 1 * (y 1).val = (y 1).val; rw [(idx0_6 t).2]; omega
theorem iblk0_7 (c : Dev nD) (t : Fin cfg0.N) : iblk0 V c 7 t = V c main_v4 := by
  funext y
  show V c main_v4 (((cfg0.win 7).blk t).view.emb y) = _
  refine congrArg (V c main_v4) (funext fun a => Fin.ext ?_)
  match a with
  | ⟨0, _⟩ => show win0_7.index t 0 * 1 + 1 * (y 0).val = (y 0).val; rw [(idx0_7 t).1]; omega
  | ⟨1, _⟩ => show win0_7.index t 1 * 4096 + 1 * (y 1).val = (y 1).val; rw [(idx0_7 t).2]; omega

/-! ## The blocks in terms of the arguments -/

theorem bx (c : Dev nD) (t : Fin cfg0.N) (r : Fin 512) (d : Fin 2304) :
    iblk0 (V1 m ρ) c 0 t (ix2 r d) = (ins m c).x (tokB (tl t)) (tokS (tl t) r) d :=
  (iblk0_0 _ c t r d).trans ((congrFun (v0_eq m ρ c) _).trans (Cert.Lay.flat _ _ _ _ _ _ (tok_val t r)))
theorem bdq (c : Dev nD) (t : Fin cfg0.N) (r : Fin 512) (k : Fin 4096) :
    iblk0 (V1 m ρ) c 8 t (ix2 r k) = (ins m c).dq (tokB (tl t)) (tokS (tl t) r) k :=
  (iblk0_8 _ c t r k).trans ((congrFun (v1_eq m ρ c) _).trans (Cert.Lay.flat _ _ _ _ _ _ (tok_val t r)))
theorem bxs (c : Dev nD) (t : Fin cfg0.N) (r : Fin 512) :
    View.ld (iblk0 (V1 m ρ) c 1 t) (rowRect (grid0.coords t)) (ix2 0 r) = (ins m c).xs (tokB (tl t)) (tokS (tl t) r) := by
  rw [ld_row, iblk0_1]; exact congrFun (W1_args m ρ c main_arg1 (by simp [argRefs])) _
theorem brstd (c : Dev nD) (t : Fin cfg0.N) (r : Fin 512) :
    View.ld (iblk0 (V1 m ρ) c 2 t) (rowRect (grid0.coords t)) (ix2 0 r) = (ins m c).rstd (tokB (tl t)) (tokS (tl t) r) := by
  rw [ld_row, iblk0_2]; exact congrFun (W1_args m ρ c main_arg2 (by simp [argRefs])) _
theorem bmean (c : Dev nD) (t : Fin cfg0.N) (r : Fin 512) :
    View.ld (iblk0 (V1 m ρ) c 3 t) (rowRect (grid0.coords t)) (ix2 0 r) = (ins m c).mean (tokB (tl t)) (tokS (tl t) r) := by
  rw [ld_row, iblk0_3]; exact congrFun (W1_args m ρ c main_arg3 (by simp [argRefs])) _
theorem bgam (c : Dev nD) (t : Fin cfg0.N) (d : Fin 2304) : iblk0 (V1 m ρ) c 4 t (ix2 0 d) = (ins m c).gam d :=
  (congrFun (iblk0_4 _ c t) _).trans ((congrFun (v2_eq m ρ c) _).trans (Cert.Lay.castRow _ _ 0 d))
theorem bbet (c : Dev nD) (t : Fin cfg0.N) (d : Fin 2304) : iblk0 (V1 m ρ) c 5 t (ix2 0 d) = (ins m c).bet d :=
  (congrFun (iblk0_5 _ c t) _).trans ((congrFun (v3_eq m ρ c) _).trans (Cert.Lay.castRow _ _ 0 d))
/-- The dequantised weights the scratch holds. -/
theorem bwd (c : Dev nD) (d : Fin 2304) (k : Fin 4096) : wb0 (V1 m ρ) c (ix2 d k) = (ins m c).wd d k := by
  unfold wb0
  rw [wbB_apply]
  have e6 : iblk0 (V1 m ρ) c 6 pt0 (ix2 d k) = (ins m c).w d k :=
    (congrFun (iblk0_6 _ c pt0) _).trans (congrFun (W1_args m ρ c main_arg6 (by simp [argRefs])) _)
  have e7 : iblk0 (V1 m ρ) c 7 pt0 (ix2 0 k) = (ins m c).ws k :=
    (congrFun (iblk0_7 _ c pt0) _).trans ((congrFun (v4_eq m ρ c) _).trans (Cert.Lay.castRow _ _ 0 k))
  rw [e6, e7]; rfl

/-- The gradient of the layer-norm output, read off the blocks. -/
theorem bh (c : Dev nD) (t : Fin cfg0.N) (r : Fin 512) (d : Fin 2304) :
    hid (fun k => iblk0 (V1 m ρ) c 8 t (ix2 r k)) (fun e k => wb0 (V1 m ρ) c (ix2 e k)) d = (ins m c).h (tokB (tl t)) (tokS (tl t) r) d := by
  simp only [bdq, bwd]; rfl

/-! ## What each point leaves -/

theorem dxAt_apply (c : Dev nD) (t : Fin cfg0.N) (r : Fin 512) (d : Fin 2304) :
    dxAt (V1 m ρ) c t (ix2 r d) = (ins m c).dx (tokB (tl t)) (tokS (tl t) r) d := by
  unfold dxAt dxB
  rw [pay2_apply]
  simp only [pay9_apply, pay11_apply, bx, bxs, brstd, bmean, bgam, bh]
  rfl

theorem xtAt_apply (c : Dev nD) (t : Fin cfg0.N) (d : Fin 2304) (r : Fin 512) :
    xtAt (V1 m ρ) c t (ix2 d r) = (ins m c).y (tokB (tl t)) (tokS (tl t) r) d := by
  unfold xtAt xtB
  rw [pay10_apply, bx, bxs, brstd, bmean, bgam, bbet]
  rfl

/-- The tile numbered `i`. -/
def tile (i : ℕ) : Fin 4 := ⟨i % 4, Nat.mod_lt _ (by decide)⟩

theorem tl_eq (t : Fin cfg0.N) : tl t = tile t.val := Fin.ext (Nat.mod_eq_of_lt (lt_of_lt_of_eq t.isLt N_0)).symm

/-- The scale gradient after point `n`: the sum over the tiles so far. -/
theorem dgAt_apply (c : Dev nD) (d : Fin 2304) : ∀ (n : ℕ) (h : n < cfg0.N),
    dgAt (V1 m ρ) c n h (ix2 0 d) = ∑ i ∈ Finset.range (n + 1), ∑ r : Fin 512,
      (ins m c).h (tokB (tile i)) (tokS (tile i) r) d * (ins m c).n (tokB (tile i)) (tokS (tile i) r) d
  | 0, h => by
    unfold dgAt dgB
    rw [pay12_apply, pay4_apply, zero_add, Finset.sum_range_one]
    simp only [bx, bxs, brstd, bmean, bh, tl_eq]
    rfl
  | n + 1, h => by
    unfold dgAt dgB
    rw [pay12_apply, dgAt_apply c d n, Finset.sum_range_succ _ (n + 1)]
    simp only [bx, bxs, brstd, bmean, bh, tl_eq]
    rfl

/-- The shift gradient after point `n`: the sum over the tiles so far. -/
theorem dbAt_apply (c : Dev nD) (d : Fin 2304) : ∀ (n : ℕ) (h : n < cfg0.N),
    dbAt (V1 m ρ) c n h (ix2 0 d) = ∑ i ∈ Finset.range (n + 1), ∑ r : Fin 512, (ins m c).h (tokB (tile i)) (tokS (tile i) r) d
  | 0, h => by
    unfold dbAt
    rw [dbB_apply, pay5_apply, zero_add, Finset.sum_range_one]
    simp only [bh, tl_eq]
  | n + 1, h => by
    unfold dbAt
    rw [dbB_apply, dbAt_apply c d n, Finset.sum_range_succ _ (n + 1)]
    simp only [bh, tl_eq]

theorem sum_tile (f : Fin 4 → EReal) : ∑ i ∈ Finset.range 4, f (tile i) = ∑ t : Fin 4, f t := by
  rw [Finset.sum_range]
  exact Finset.sum_congr rfl fun t _ => congrArg f (Fin.ext (Nat.mod_eq_of_lt t.isLt))

end Cert.KernelIdeal.Whole

end
-- ==== Proof.Value.Arrays.lean ====
/- What the kernel's result arrays hold at the end of the run, entry by entry, as functions of the argument arrays. -/
module

public import proofs.«01_k».proof.Proof.Value.Entry

@[expose] public section

set_option maxRecDepth 16384

noncomputable section

namespace Cert.KernelIdeal.Whole

open Cert.KernelIdeal.Gen
open Idealize.ShloMosaic Idealize.ShloMosaic.TcCoe Idealize.ShloMosaic.ValueIdx Idealize.ShloMosaic.StableHlo
open Idealize.ShloMosaic.Pipeline (Dat)
open Cert.Spec

variable (m : (ℓ : Loc nD τ sig) → Buf (Elt Ideal) ℓ) (ρ : Dev nD → PrngReg)

/-! ## The first call's arrays -/

theorem tokB_tok (t : Fin cfg0.N) (r : Fin 512) : tokB' (tok t r) = tokB (tl t) :=
  Fin.ext (by simp only [tok, tokB, tokB', tl]; omega)
theorem tokS_tok (t : Fin cfg0.N) (r : Fin 512) : tokS' (tok t r) = tokS (tl t) r :=
  Fin.ext (by simp only [tok, tokS, tokS', tl]; omega)

/-- The point and the row of a token. -/
theorem exists_tok (q : Fin 2048) : ∃ (t : Fin cfg0.N) (r : Fin 512), tok t r = q :=
  ⟨⟨q.val / 512, lt_of_lt_of_eq (by omega) N_0.symm⟩, ⟨q.val % 512, by omega⟩, Fin.ext (by simp only [tok]; omega)⟩

/-- The input gradients, one row per token. -/
def gdx (c : Dev nD) : Buf (Elt Ideal) ((c : Thread nD τ).loc main_v5_0) :=
  fun i : S2048x2304.Idx => (ins m c).dx (tokB' (i 0)) (tokS' (i 0)) (i 1)
/-- The layer-norm outputs, one column per token. -/
def gxt (c : Dev nD) : Buf (Elt Ideal) ((c : Thread nD τ).loc main_v5_1) :=
  fun i : S2304x2048.Idx => (ins m c).y (tokB' (i 1)) (tokS' (i 1)) (i 0)
/-- The scale gradient, as one row. -/
def gdg (c : Dev nD) : Buf (Elt Ideal) ((c : Thread nD τ).loc main_v5_2) :=
  fun i : S1x2304.Idx => (ins m c).dg (i 1)
/-- The shift gradient, as one row. -/
def gdb (c : Dev nD) : Buf (Elt Ideal) ((c : Thread nD τ).loc main_v5_3) :=
  fun i : S1x2304.Idx => (ins m c).db (i 1)

theorem emb9 (t : Fin cfg0.N) (r : Fin 512) (d : Fin 2304) : ((cfg0.win 9).blk t).view.emb (ix2 r d) = (ix2 (tok t r) d : S2048x2304.Idx) :=
  funext fun a => Fin.ext (by
    match a with
    | ⟨0, _⟩ => show win0_9.index t 0 * 512 + 1 * r.val = t.val * 512 + r.val; rw [(idx0_9 t).1]; omega
    | ⟨1, _⟩ => show win0_9.index t 1 * 2304 + 1 * d.val = d.val; rw [(idx0_9 t).2]; omega)
theorem emb10 (t : Fin cfg0.N) (d : Fin 2304) (r : Fin 512) : ((cfg0.win 10).blk t).view.emb (ix2 d r) = (ix2 d (tok t r) : S2304x2048.Idx) :=
  funext fun a => Fin.ext (by
    match a with
    | ⟨0, _⟩ => show win0_10.index t 0 * 2304 + 1 * d.val = d.val; rw [(idx0_10 t).1]; omega
    | ⟨1, _⟩ => show win0_10.index t 1 * 512 + 1 * r.val = t.val * 512 + r.val; rw [(idx0_10 t).2]; omega)
theorem emb11 (t : Fin cfg0.N) (u : Fin 1) (d : Fin 2304) : ((cfg0.win 11).blk t).view.emb (ix2 u d) = (ix2 u d : S1x2304.Idx) :=
  funext fun a => Fin.ext (by
    match a with
    | ⟨0, _⟩ => show win0_11.index t 0 * 1 + 1 * u.val = u.val; rw [(idx0_11 t).1]; omega
    | ⟨1, _⟩ => show win0_11.index t 1 * 2304 + 1 * d.val = d.val; rw [(idx0_11 t).2]; omega)
theorem emb12 (t : Fin cfg0.N) (u : Fin 1) (d : Fin 2304) : ((cfg0.win 12).blk t).view.emb (ix2 u d) = (ix2 u d : S1x2304.Idx) :=
  funext fun a => Fin.ext (by
    match a with
    | ⟨0, _⟩ => show win0_12.index t 0 * 1 + 1 * u.val = u.val; rw [(idx0_12 t).1]; omega
    | ⟨1, _⟩ => show win0_12.index t 1 * 2304 + 1 * d.val = d.val; rw [(idx0_12 t).2]; omega)

/-- Every point writes back its rows of the input gradients. -/
theorem flushed9 (c : Dev nD) (t : Fin cfg0.N) : (dat0 (V1 m ρ) c).flushed 9 t = ((cfg0.win 9).blk t).view.read (Elt Ideal) (gdx m c) := by
  show (cfg0.win 9).cut (grid0.coords t) ((dat0 (V1 m ρ) c).after 9 t) = _
  rw [after0_9]
  funext y
  obtain ⟨r, d, rfl⟩ : ∃ (r : Fin 512) (d : Fin 2304), y = ix2 r d := ⟨y 0, y 1, eq_ix2 (n0 := 512) (n1 := 2304) y⟩
  show dxAt (V1 m ρ) c t (ix2 r d) = gdx m c (((cfg0.win 9).blk t).view.emb (ix2 r d))
  rw [emb9, dxAt_apply]
  show _ = (ins m c).dx (tokB' (tok t r)) (tokS' (tok t r)) d
  rw [tokB_tok, tokS_tok]

/-- Every point writes back its columns of the layer-norm outputs. -/
theorem flushed10 (c : Dev nD) (t : Fin cfg0.N) : (dat0 (V1 m ρ) c).flushed 10 t = ((cfg0.win 10).blk t).view.read (Elt Ideal) (gxt m c) := by
  show (cfg0.win 10).cut (grid0.coords t) ((dat0 (V1 m ρ) c).after 10 t) = _
  rw [after0_10]
  funext y
  obtain ⟨d, r, rfl⟩ : ∃ (d : Fin 2304) (r : Fin 512), y = ix2 d r := ⟨y 0, y 1, eq_ix2 (n0 := 2304) (n1 := 512) y⟩
  show xtAt (V1 m ρ) c t (ix2 d r) = gxt m c (((cfg0.win 10).blk t).view.emb (ix2 d r))
  rw [emb10, xtAt_apply]
  show _ = (ins m c).y (tokB' (tok t r)) (tokS' (tok t r)) d
  rw [tokB_tok, tokS_tok]

/-- The last point writes back the scale gradient. -/
theorem flushed11 (c : Dev nD) (t : Fin cfg0.N) (hf : (cfg0.win 11).flush t = true) :
    (dat0 (V1 m ρ) c).flushed 11 t = ((cfg0.win 11).blk t).view.read (Elt Ideal) (gdg m c) := by
  have h3 : t.val = 3 := by
    have h4 : t.val < 4 := lt_of_lt_of_eq t.isLt N_0
    have := (flush0_11 t).mp hf; omega
  show (cfg0.win 11).cut (grid0.coords t) ((dat0 (V1 m ρ) c).after 11 t) = _
  rw [after0_11]
  funext y
  obtain ⟨u, d, rfl⟩ : ∃ (u : Fin 1) (d : Fin 2304), y = ix2 u d := ⟨y 0, y 1, eq_ix2 (n0 := 1) (n1 := 2304) y⟩
  obtain rfl : u = 0 := Fin.fin_one_eq_zero u
  show dgAt (V1 m ρ) c t.val t.isLt (ix2 0 d) = gdg m c (((cfg0.win 11).blk t).view.emb (ix2 0 d))
  rw [emb11, dgAt_apply, h3]
  exact (sum_tile fun i => ∑ r : Fin 512, (ins m c).h (tokB i) (tokS i r) d * (ins m c).n (tokB i) (tokS i r) d).trans
    (sum_tok fun b s => (ins m c).h b s d * (ins m c).n b s d)

/-- The last point writes back the shift gradient. -/
theorem flushed12 (c : Dev nD) (t : Fin cfg0.N) (hf : (cfg0.win 12).flush t = true) :
    (dat0 (V1 m ρ) c).flushed 12 t = ((cfg0.win 12).blk t).view.read (Elt Ideal) (gdb m c) := by
  have h3 : t.val = 3 := by
    have h4 : t.val < 4 := lt_of_lt_of_eq t.isLt N_0
    have := (flush0_12 t).mp hf; omega
  show (cfg0.win 12).cut (grid0.coords t) ((dat0 (V1 m ρ) c).after 12 t) = _
  rw [after0_12]
  funext y
  obtain ⟨u, d, rfl⟩ : ∃ (u : Fin 1) (d : Fin 2304), y = ix2 u d := ⟨y 0, y 1, eq_ix2 (n0 := 1) (n1 := 2304) y⟩
  obtain rfl : u = 0 := Fin.fin_one_eq_zero u
  show dbAt (V1 m ρ) c t.val t.isLt (ix2 0 d) = gdb m c (((cfg0.win 12).blk t).view.emb (ix2 0 d))
  rw [emb12, dbAt_apply, h3]
  exact (sum_tile fun i => ∑ r : Fin 512, (ins m c).h (tokB i) (tokS i r) d).trans (sum_tok fun b s => (ins m c).h b s d)

/-- The last point of the first call. -/
abbrev pt3 : Fin cfg0.N := ⟨3, by rw [show cfg0.N = 4 from N_0]; decide⟩

/-- The input gradients after the run of the first call. -/
theorem arr9 (c : Dev nD) : (dat0 (V1 m ρ) c).arrAt 9 cfg0.N = gdx m c := by
  funext i
  obtain ⟨q, d, rfl⟩ : ∃ (q : Fin 2048) (d : Fin 2304), i = ix2 q d := ⟨i 0, i 1, eq_ix2 (n0 := 2048) (n1 := 2304) i⟩
  obtain ⟨t, r, rfl⟩ := exists_tok q
  refine (dat0 (V1 m ρ) c).arrAt_apply_of_mem 9 (gdx m c) (fun t _ => flushed9 m ρ c t) cfg0.N t _ t.isLt (flush0_9 t) ?_
  rw [← emb9]; exact View.emb_mem_set _ _

/-- The layer-norm outputs after the run of the first call. -/
theorem arr10 (c : Dev nD) : (dat0 (V1 m ρ) c).arrAt 10 cfg0.N = gxt m c := by
  funext i
  obtain ⟨d, q, rfl⟩ : ∃ (d : Fin 2304) (q : Fin 2048), i = ix2 d q := ⟨i 0, i 1, eq_ix2 (n0 := 2304) (n1 := 2048) i⟩
  obtain ⟨t, r, rfl⟩ := exists_tok q
  refine (dat0 (V1 m ρ) c).arrAt_apply_of_mem 10 (gxt m c) (fun t _ => flushed10 m ρ c t) cfg0.N t _ t.isLt (flush0_10 t) ?_
  rw [← emb10]; exact View.emb_mem_set _ _

/-- The scale gradient after the run of the first call. -/
theorem arr11 (c : Dev nD) : (dat0 (V1 m ρ) c).arrAt 11 cfg0.N = gdg m c := by
  funext i
  obtain ⟨u, d, rfl⟩ : ∃ (u : Fin 1) (d : Fin 2304), i = ix2 u d := ⟨i 0, i 1, eq_ix2 (n0 := 1) (n1 := 2304) i⟩
  refine (dat0 (V1 m ρ) c).arrAt_apply_of_mem 11 (gdg m c) (flushed11 m ρ c) cfg0.N pt3 _ pt3.isLt ((flush0_11 pt3).mpr rfl) ?_
  rw [← emb11 pt3]; exact View.emb_mem_set _ _

/-- The shift gradient after the run of the first call. -/
theorem arr12 (c : Dev nD) : (dat0 (V1 m ρ) c).arrAt 12 cfg0.N = gdb m c := by
  funext i
  obtain ⟨u, d, rfl⟩ : ∃ (u : Fin 1) (d : Fin 2304), i = ix2 u d := ⟨i 0, i 1, eq_ix2 (n0 := 1) (n1 := 2304) i⟩
  refine (dat0 (V1 m ρ) c).arrAt_apply_of_mem 12 (gdb m c) (flushed12 m ρ c) cfg0.N pt3 _ pt3.isLt ((flush0_12 pt3).mpr rfl) ?_
  rw [← emb12 pt3]; exact View.emb_mem_set _ _

/-! ## The second call's array -/

/-- The weight gradient. -/
def gdW (c : Dev nD) : Buf (Elt Ideal) ((c : Thread nD τ).loc main_v6) :=
  fun i : S2304x4096.Idx => (ins m c).dW (i 0) (i 1)

/-- Row `i` of the block of rows of point `t`. -/
def wrow (t : Fin cfg1.N) (i : Fin 768) : Fin 2304 := ⟨t.val % 3 * 768 + i.val, by omega⟩
/-- Column `j` of the block of columns of point `t`. -/
def wcol (t : Fin cfg1.N) (j : Fin 1024) : Fin 4096 := ⟨t.val / 3 * 1024 + j.val, by have := lt_of_lt_of_eq t.isLt N_1; omega⟩

theorem idx1_0 : ∀ t : Fin cfg1.N, win1_0.index t 0 = t.val % 3 ∧ win1_0.index t 1 = 0 := (by decide +kernel : ∀ t : Fin grid1.N, _)
theorem idx1_1 : ∀ t : Fin cfg1.N, win1_1.index t 0 = 0 ∧ win1_1.index t 1 = t.val / 3 := (by decide +kernel : ∀ t : Fin grid1.N, _)
theorem idx1_2 : ∀ t : Fin cfg1.N, win1_2.index t 0 = t.val % 3 ∧ win1_2.index t 1 = t.val / 3 := (by decide +kernel : ∀ t : Fin grid1.N, _)

theorem exists_wrc (d : Fin 2304) (k : Fin 4096) : ∃ (t : Fin cfg1.N) (i : Fin 768) (j : Fin 1024), wrow t i = d ∧ wcol t j = k :=
  ⟨⟨k.val / 1024 * 3 + d.val / 768, lt_of_lt_of_eq (by omega) N_1.symm⟩, ⟨d.val % 768, by omega⟩, ⟨k.val % 1024, by omega⟩,
    Fin.ext (by simp only [wrow]; omega), Fin.ext (by simp only [wcol]; omega)⟩

/-- The layer-norm outputs at the second call's entry. -/
theorem v5_1_eq (c : Dev nD) : V2 m ρ c main_v5_1 = gxt m c := (W2_arr m ρ c 10).trans (arr10 m ρ c)

/-- The output gradients at the second call's entry. -/
theorem v1_at2 (c : Dev nD) (q : Fin 2048) (k : Fin 4096) : V2 m ρ c main_v1 (ix2 q k) = (ins m c).dq (tokB' q) (tokS' q) k := by
  have e : V2 m ρ c main_v1 = V1 m ρ c main_v1 := W2_of m ρ c main_v1 (by decide)
  rw [e, v1_eq]
  exact Cert.Lay.flat _ _ _ _ _ _ (by simp only [tokB', tokS']; omega)

theorem iblk1_0 (c : Dev nD) (t : Fin cfg1.N) (i : Fin 768) (q : Fin 2048) :
    iblk1 (V2 m ρ) c 0 t (ix2 i q) = (ins m c).y (tokB' q) (tokS' q) (wrow t i) := by
  have e : ((cfg1.win 0).blk t).view.emb (ix2 i q) = (ix2 (wrow t i) q : S2304x2048.Idx) := funext fun a => Fin.ext (by
    match a with
    | ⟨0, _⟩ => show win1_0.index t 0 * 768 + 1 * i.val = t.val % 3 * 768 + i.val; rw [(idx1_0 t).1]; omega
    | ⟨1, _⟩ => show win1_0.index t 1 * 2048 + 1 * q.val = q.val; rw [(idx1_0 t).2]; omega)
  show V2 m ρ c main_v5_1 (((cfg1.win 0).blk t).view.emb (ix2 i q)) = _
  rw [e, v5_1_eq]; rfl

theorem iblk1_1 (c : Dev nD) (t : Fin cfg1.N) (q : Fin 2048) (j : Fin 1024) :
    iblk1 (V2 m ρ) c 1 t (ix2 q j) = (ins m c).dq (tokB' q) (tokS' q) (wcol t j) := by
  have e : ((cfg1.win 1).blk t).view.emb (ix2 q j) = (ix2 q (wcol t j) : S2048x4096.Idx) := funext fun a => Fin.ext (by
    match a with
    | ⟨0, _⟩ => show win1_1.index t 0 * 2048 + 1 * q.val = q.val; rw [(idx1_1 t).1]; omega
    | ⟨1, _⟩ => show win1_1.index t 1 * 1024 + 1 * j.val = t.val / 3 * 1024 + j.val; rw [(idx1_1 t).2]; omega)
  show V2 m ρ c main_v1 (((cfg1.win 1).blk t).view.emb (ix2 q j)) = _
  rw [e, v1_at2]

theorem emb1_2 (t : Fin cfg1.N) (i : Fin 768) (j : Fin 1024) :
    ((cfg1.win 2).blk t).view.emb (ix2 i j) = (ix2 (wrow t i) (wcol t j) : S2304x4096.Idx) :=
  funext fun a => Fin.ext (by
    match a with
    | ⟨0, _⟩ => show win1_2.index t 0 * 768 + 1 * i.val = t.val % 3 * 768 + i.val; rw [(idx1_2 t).1]; omega
    | ⟨1, _⟩ => show win1_2.index t 1 * 1024 + 1 * j.val = t.val / 3 * 1024 + j.val; rw [(idx1_2 t).2]; omega)

/-- Every point of the second call writes back its block of the weight gradient. -/
theorem flushed1_2 (c : Dev nD) (t : Fin cfg1.N) : (dat1 (V2 m ρ) c).flushed 2 t = ((cfg1.win 2).blk t).view.read (Elt Ideal) (gdW m c) := by
  show (cfg1.win 2).cut (grid1.coords t) ((dat1 (V2 m ρ) c).after 2 t) = _
  rw [after1_2]
  funext y
  obtain ⟨i, j, rfl⟩ : ∃ (i : Fin 768) (j : Fin 1024), y = ix2 i j := ⟨y 0, y 1, eq_ix2 (n0 := 768) (n1 := 1024) y⟩
  show out1_2 (F := Ideal) (iblk1 (V2 m ρ) c 0 t) (iblk1 (V2 m ρ) c 1 t) (ix2 i j) = gdW m c (((cfg1.win 2).blk t).view.emb (ix2 i j))
  rw [emb1_2, out1_apply]
  simp only [iblk1_0, iblk1_1]
  exact sum_tok' fun b s => (ins m c).y b s (wrow t i) * (ins m c).dq b s (wcol t j)

/-- The weight gradient after the run of the second call. -/
theorem arr1_2 (c : Dev nD) : (dat1 (V2 m ρ) c).arrAt 2 cfg1.N = gdW m c := by
  funext x
  obtain ⟨d, k, rfl⟩ : ∃ (d : Fin 2304) (k : Fin 4096), x = ix2 d k := ⟨x 0, x 1, eq_ix2 (n0 := 2304) (n1 := 4096) x⟩
  obtain ⟨t, i, j, rfl, rfl⟩ := exists_wrc d k
  refine (dat1 (V2 m ρ) c).arrAt_apply_of_mem 2 (gdW m c) (fun t _ => flushed1_2 m ρ c t) cfg1.N t _ t.isLt (flush1_2 t) ?_
  rw [← emb1_2]; exact View.emb_mem_set _ _

/-! ## The four results -/

/-- The input gradient the kernel leaves. -/
theorem res_dx (c : Dev nD) : W4 m ρ c (Proc.devRef .tc main_v7) = fun i : S2x1024x2304.Idx => (ins m c).dx (i 0) (i 1) (i 2) := by
  have e : W4 m ρ c (Proc.devRef .tc main_v7)
      = shapeCast S2x1024x2304 (W3 m ρ c (Proc.devRef .tc main_v5_0)) shapeCasts_S2048x2304_S2x1024x2304 := by
    show StableHlo.after hostOps2 (W3 m ρ c) (Proc.devRef .tc main_v7) = _
    simp only [hostOps2]
    after_results_simp; rfl
  have e5 : W3 m ρ c (Proc.devRef .tc main_v5_0) = gdx m c :=
    (W3_of m ρ c main_v5_0 (by decide)).trans ((W2_arr m ρ c 9).trans (arr9 m ρ c))
  rw [e, e5]
  funext i
  obtain ⟨b, s, d, rfl⟩ : ∃ (b : Fin 2) (s : Fin 1024) (d : Fin 2304), i = ix3 b s d := ⟨i 0, i 1, i 2, eq_ix3 (n0 := 2) (n1 := 1024) (n2 := 2304) i⟩
  refine (Cert.Lay.unflat _ _ (⟨b.val * 1024 + s.val, by omega⟩ : Fin 2048) d b s rfl).trans ?_
  show (ins m c).dx (tokB' ⟨b.val * 1024 + s.val, _⟩) (tokS' ⟨b.val * 1024 + s.val, _⟩) d = (ins m c).dx b s d
  rw [show tokB' ⟨b.val * 1024 + s.val, by omega⟩ = b from Fin.ext (by simp only [tokB']; omega),
    show tokS' ⟨b.val * 1024 + s.val, by omega⟩ = s from Fin.ext (by simp only [tokS']; omega)]

/-- The weight gradient the kernel leaves. -/
theorem res_dW (c : Dev nD) : W4 m ρ c (Proc.devRef .tc main_v6) = fun i : S2304x4096.Idx => (ins m c).dW (i 0) (i 1) :=
  (W4_of m ρ c main_v6 (by decide)).trans ((W3_arr m ρ c 2).trans (arr1_2 m ρ c))

/-- The scale gradient the kernel leaves. -/
theorem res_dg (c : Dev nD) : W4 m ρ c (Proc.devRef .tc main_v8) = fun i : S2304.Idx => (ins m c).dg (i 0) := by
  have e : W4 m ρ c (Proc.devRef .tc main_v8) = shapeCast S2304 (W3 m ρ c (Proc.devRef .tc main_v5_2)) shapeCasts_S1x2304_S2304 := by
    show StableHlo.after hostOps2 (W3 m ρ c) (Proc.devRef .tc main_v8) = _
    simp only [hostOps2]
    after_results_simp; rfl
  have e5 : W3 m ρ c (Proc.devRef .tc main_v5_2) = gdg m c :=
    (W3_of m ρ c main_v5_2 (by decide)).trans ((W2_arr m ρ c 11).trans (arr11 m ρ c))
  rw [e, e5]
  funext i
  obtain ⟨d, rfl⟩ : ∃ d : Fin 2304, i = ix1 d := ⟨i 0, eq_ix1 (n := 2304) i⟩
  exact Cert.Lay.uncastRow _ _ d

/-- The shift gradient the kernel leaves. -/
theorem res_db (c : Dev nD) : W4 m ρ c (Proc.devRef .tc main_v9) = fun i : S2304.Idx => (ins m c).db (i 0) := by
  have e : W4 m ρ c (Proc.devRef .tc main_v9) = shapeCast S2304 (W3 m ρ c (Proc.devRef .tc main_v5_3)) shapeCasts_S1x2304_S2304 := by
    show StableHlo.after hostOps2 (W3 m ρ c) (Proc.devRef .tc main_v9) = _
    simp only [hostOps2]
    after_results_simp; rfl
  have e5 : W3 m ρ c (Proc.devRef .tc main_v5_3) = gdb m c :=
    (W3_of m ρ c main_v5_3 (by decide)).trans ((W2_arr m ρ c 12).trans (arr12 m ρ c))
  rw [e, e5]
  funext i
  obtain ⟨d, rfl⟩ : ∃ d : Fin 2304, i = ix1 d := ⟨i 0, eq_ix1 (n := 2304) i⟩
  exact Cert.Lay.uncastRow _ _ d

end Cert.KernelIdeal.Whole

end
-- ==== Proof.Value.RefOps.lean ====
/- What the reference program's operations compute, entry by entry, as functions of the argument arrays. -/
module

public import proofs.«01_k».proof.Proof.Value.Spec
public import proofs.«01_k».proof.Proof.Gen.ReferenceIdeal.Read
public import Idealize.ShloMosaic.Lib.IdealHost
public import Idealize.ShloMosaic.Lib.TwoAxisContraction

@[expose] public section

set_option maxRecDepth 16384

noncomputable section

namespace Cert.ReferenceIdeal.Math

open Cert.ReferenceIdeal Cert.ReferenceIdeal.Gen Cert.ReferenceIdeal.Read
open Idealize.ShloMosaic Idealize.ShloMosaic.TcCoe Idealize.ShloMosaic.ValueIdx Idealize.ShloMosaic.StableHlo
open Cert.Spec

/-- `2304.0` denotes the real `2304`. -/
theorem ofBits_2304 : Ideal.ofBits .f32 0x45100000#32 = ((2304 : ℝ) : EReal) := by
  simp [Ideal.ofBits, Ideal.ieee, -EReal.coe_mul]; norm_num

/-! ## Which operand entry each broadcast reads -/

theorem iTok1 (b : Fin 2) (s : Fin 1024) (d : Fin 2304) : idx_main_v1 (idx_main_v2 (ix3 b s d)) = ix2 b s :=
  funext fun a => by match a with | ⟨0, _⟩ => rfl | ⟨1, _⟩ => rfl
theorem iTok4 (b : Fin 2) (s : Fin 1024) (d : Fin 2304) : idx_main_v4 (idx_main_v5 (ix3 b s d)) = ix2 b s :=
  funext fun a => by match a with | ⟨0, _⟩ => rfl | ⟨1, _⟩ => rfl
theorem iTok7 (b : Fin 2) (s : Fin 1024) (d : Fin 2304) : idx_main_v7 (idx_main_v8 (ix3 b s d)) = ix2 b s :=
  funext fun a => by match a with | ⟨0, _⟩ => rfl | ⟨1, _⟩ => rfl
theorem iTok29 (b : Fin 2) (s : Fin 1024) (d : Fin 2304) : idx_main_v29 (idx_main_v44 (ix3 b s d)) = ix2 b s :=
  funext fun a => by match a with | ⟨0, _⟩ => rfl | ⟨1, _⟩ => rfl
theorem iTok31 (b : Fin 2) (s : Fin 1024) (d : Fin 2304) : idx_main_v31 (idx_main_v34 (ix3 b s d)) = ix2 b s :=
  funext fun a => by match a with | ⟨0, _⟩ => rfl | ⟨1, _⟩ => rfl
theorem iTok38 (b : Fin 2) (s : Fin 1024) (d : Fin 2304) : idx_main_v38 (idx_main_v41 (ix3 b s d)) = ix2 b s :=
  funext fun a => by match a with | ⟨0, _⟩ => rfl | ⟨1, _⟩ => rfl
theorem iCh10 (b : Fin 2) (s : Fin 1024) (d : Fin 2304) : idx_main_v10 (idx_main_v11 (ix3 b s d)) = ix1 d :=
  funext fun a => by match a with | ⟨0, _⟩ => rfl
theorem iCh13 (b : Fin 2) (s : Fin 1024) (d : Fin 2304) : idx_main_v13 (idx_main_v14 (ix3 b s d)) = ix1 d :=
  funext fun a => by match a with | ⟨0, _⟩ => rfl
theorem iCh26 (b : Fin 2) (s : Fin 1024) (d : Fin 2304) : idx_main_v26 (idx_main_v27 (ix3 b s d)) = ix1 d :=
  funext fun a => by match a with | ⟨0, _⟩ => rfl
theorem iCol (d : Fin 2304) (k : Fin 4096) : idx_main_v19 (idx_main_v20 (ix2 d k)) = ix1 k :=
  funext fun a => by match a with | ⟨0, _⟩ => rfl
theorem iL (b : Fin 2) (s : Fin 1024) (d : Fin 2304) (k : Fin 4096) : lidx_main_v22 (ix3 b s d) k = ix3 b s k :=
  funext fun a => by match a with | ⟨0, _⟩ => rfl | ⟨1, _⟩ => rfl | ⟨2, _⟩ => rfl
theorem iR (b : Fin 2) (s : Fin 1024) (d : Fin 2304) (k : Fin 4096) : ridx_main_v22 (ix3 b s d) k = ix2 d k :=
  funext fun a => by match a with | ⟨0, _⟩ => rfl | ⟨1, _⟩ => rfl
theorem iRow30 (b : Fin 2) (s : Fin 1024) (k : Fin 2304) : idx_main_v30 (ix2 b s) k = ix3 b s k :=
  funext fun a => by match a with | ⟨0, _⟩ => rfl | ⟨1, _⟩ => rfl | ⟨2, _⟩ => rfl
theorem iRow37 (b : Fin 2) (s : Fin 1024) (k : Fin 2304) : idx_main_v37 (ix2 b s) k = ix3 b s k :=
  funext fun a => by match a with | ⟨0, _⟩ => rfl | ⟨1, _⟩ => rfl | ⟨2, _⟩ => rfl

/-! ## The two-axis sums -/

/-- A sum over the indices that satisfy `p` is the sum over the parameters of the injection `g` whose range they are. -/
theorem sum_fiber {ι κ : Type} [Fintype ι] [Fintype κ] (p : ι → Prop) [DecidablePred p] (g : κ → ι) (hg : Function.Injective g)
    (hp : ∀ i, p i ↔ ∃ k, g k = i) (v : ι → EReal) : ∑ i ∈ Finset.univ.filter p, v i = ∑ k, v (g k) := by
  have e : Finset.univ.filter p = Finset.univ.map ⟨g, hg⟩ := by
    ext i; simp only [Finset.mem_filter, Finset.mem_univ, true_and, Finset.mem_map, Function.Embedding.coeFn_mk, hp]
  rw [e, Finset.sum_map]; rfl

/-- The host's sum over the batches and the positions, from zero. -/
theorem reduceTok (y : FVec Ideal S2x1024x2304 .f32) (z : FVec Ideal S_ .f32) (hz : z (Shape.Idx.first h_S_) = (0 : EReal)) (d : Fin 2304) :
    Host.reduceAdd y z reducesTo_S2x1024x2304_S2304_d0_1 h_S_ (ix1 d) = ∑ b : Fin 2, ∑ s : Fin 1024, (y (ix3 b s d) : EReal) := by
  rw [hostReduceAdd_apply, hz]
  unfold Ideal.hostReduceAdd
  rw [zero_add, ← Fintype.sum_prod_type' (f := fun b s => (y (ix3 b s d) : EReal))]
  refine sum_fiber _ (fun p : Fin 2 × Fin 1024 => (ix3 p.1 p.2 d : S2x1024x2304.Idx)) (fun p q e => ?_) (fun i => ⟨fun e => ?_, ?_⟩) y
  · exact Prod.ext (congrFun e 0) (congrFun e 1)
  · refine ⟨(i 0, i 1), ?_⟩
    have hd : (reducesTo_S2x1024x2304_S2304_d0_1.drop i 0 : Nat) = i 2 := Shape.ReducesTo.drop_apply_val _ i 0
    rw [e] at hd
    refine funext fun a => ?_
    match a with
    | ⟨0, _⟩ => rfl
    | ⟨1, _⟩ => rfl
    | ⟨2, _⟩ => exact Fin.ext hd
  · rintro ⟨⟨b, s⟩, rfl⟩
    refine funext fun a => Fin.ext ?_
    match a with
    | ⟨0, _⟩ => exact Shape.ReducesTo.drop_apply_val reducesTo_S2x1024x2304_S2304_d0_1 _ 0

/-- The host's product over the batches and the positions. -/
theorem dotTok (x : FVec Ideal S2x1024x2304 .bf16) (y : FVec Ideal S2x1024x4096 .bf16) (d : Fin 2304) (k : Fin 4096) :
    Host.dotGeneral dot_S2x1024x2304_S2x1024x4096_S2304x4096_01_01_2_2_n_n none x y (ix2 d k)
      = ∑ b : Fin 2, ∑ s : Fin 1024, (x (ix3 b s d) : EReal) * (y (ix3 b s k) : EReal) := by
  simp only [Host.dotGeneral]
  rw [Ideal.dotGeneral_apply, sum_contr2 dot_S2x1024x2304_S2x1024x4096_S2304x4096_01_01_2_2_n_n 2 1024 rfl rfl rfl]
  refine Finset.sum_congr rfl fun b _ => Finset.sum_congr rfl fun s _ => ?_
  have h0 := contrEquiv2_symm_val0 dot_S2x1024x2304_S2x1024x4096_S2304x4096_01_01_2_2_n_n 2 1024 rfl rfl rfl (b, s)
  have h1 := contrEquiv2_symm_val1 dot_S2x1024x2304_S2x1024x4096_S2304x4096_01_01_2_2_n_n 2 1024 rfl rfl rfl (b, s)
  generalize (contrEquiv2 dot_S2x1024x2304_S2x1024x4096_S2304x4096_01_01_2_2_n_n 2 1024 rfl rfl rfl).symm (b, s) = q at h0 h1
  have el : dot_S2x1024x2304_S2x1024x4096_S2304x4096_01_01_2_2_n_n.lhsIdx (ix2 d k) q = ix3 b s d := funext fun a => Fin.ext (by
    match a with
    | ⟨0, _⟩ => exact Eq.trans rfl h0
    | ⟨1, _⟩ => exact Eq.trans rfl h1
    | ⟨2, _⟩ => rfl)
  have er : dot_S2x1024x2304_S2x1024x4096_S2304x4096_01_01_2_2_n_n.rhsIdx (ix2 d k) q = ix3 b s k := funext fun a => Fin.ext (by
    match a with
    | ⟨0, _⟩ => exact Eq.trans rfl h0
    | ⟨1, _⟩ => exact Eq.trans rfl h1
    | ⟨2, _⟩ => rfl)
  rw [el, er]

/-! ## The operations, on the arrays of `A` -/

variable (A : Ins)
  (x1 x2 x3 : (⟨S2x1024, .f32⟩ : BufTy).Contents (Elt Ideal)) (x4 x5 : (⟨S2304, .f32⟩ : BufTy).Contents (Elt Ideal))
  (x7 : (⟨S4096, .f32⟩ : BufTy).Contents (Elt Ideal)) (x8 : (⟨S2x1024x4096, .bf16⟩ : BufTy).Contents (Elt Ideal))
  (r0 : (⟨S2x1024x2304, .f32⟩ : BufTy).Contents (Elt Ideal)) (r1 : (⟨S2304x4096, .bf16⟩ : BufTy).Contents (Elt Ideal))

/-- The operands hold the arrays of `A`. -/
structure Holds : Prop where
  xs : ∀ b s, x1 (ix2 b s) = A.xs b s
  rstd : ∀ b s, x2 (ix2 b s) = A.rstd b s
  mean : ∀ b s, x3 (ix2 b s) = A.mean b s
  gam : ∀ d, x4 (ix1 d) = A.gam d
  bet : ∀ d, x5 (ix1 d) = A.bet d
  ws : ∀ k, x7 (ix1 k) = A.ws k
  dq : ∀ b s k, x8 (ix3 b s k) = A.dq b s k
  x : ∀ b s d, r0 (ix3 b s d) = A.x b s d
  w : ∀ d k, r1 (ix2 d k) = A.w d k

variable {A x1 x2 x3 x4 x5 x7 x8 r0 r1} (H : Holds A x1 x2 x3 x4 x5 x7 x8 r0 r1)
include H

/-- The normalised input. -/
theorem v9_eq (b : Fin 2) (s : Fin 1024) (d : Fin 2304) : val_main_v9 (F := Ideal) x1 x2 x3 r0 (ix3 b s d) = A.n b s d := by
  simp only [val_main_v9_apply, val_main_v8_apply, val_main_v7_apply, val_main_v6_apply, val_main_v5_apply, val_main_v4_apply,
    val_main_v3_apply, val_main_v2_apply, val_main_v1_apply, iTok1, iTok4, iTok7, H.xs, H.rstd, H.mean, H.x]
  rfl

/-- The layer-norm output. -/
theorem v16_eq (b : Fin 2) (s : Fin 1024) (d : Fin 2304) : val_main_v16 (F := Ideal) x1 x2 x3 x4 x5 r0 (ix3 b s d) = A.y b s d := by
  simp only [val_main_v16_apply, val_main_v15_apply, val_main_v14_apply, val_main_v13_apply, val_main_v12_apply, val_main_v11_apply,
    val_main_v10_apply, v9_eq H, iCh10, iCh13, H.gam, H.bet]
  rfl

/-- The dequantised weights. -/
theorem v21_eq (d : Fin 2304) (k : Fin 4096) : val_main_v21 (F := Ideal) x7 r1 (ix2 d k) = A.wd d k := by
  simp only [val_main_v21_apply, val_main_v20_apply, val_main_v19_apply, val_main_v18_apply, iCol, H.ws, H.w]
  rfl

/-- The gradient of the layer-norm output. -/
theorem v22_eq (b : Fin 2) (s : Fin 1024) (d : Fin 2304) : val_main_v22 (F := Ideal) x7 x8 r1 (ix3 b s d) = A.h b s d := by
  rw [val_main_v22_apply]
  simp only [iL, iR, v21_eq H, H.dq]
  rfl

/-- The gradient of the layer-norm output times the scale. -/
theorem v28_eq (b : Fin 2) (s : Fin 1024) (d : Fin 2304) : val_main_v28 (F := Ideal) x4 x7 x8 r1 (ix3 b s d) = A.h b s d * A.gam d := by
  simp only [val_main_v28_apply, val_main_v27_apply, val_main_v26_apply, v22_eq H, iCh26, H.gam]
  rfl

/-- The first mean over the channels. -/
theorem v34_eq (b : Fin 2) (s : Fin 1024) (d : Fin 2304) : val_main_v34 (F := Ideal) x4 x7 x8 r1 (ix3 b s d)
    = (∑ k : Fin 2304, A.h b s k * A.gam k) * ((1 / 2304 : ℝ) : EReal) := by
  rw [val_main_v34_apply, val_main_v33_apply, val_main_v31_apply, val_main_v32_apply, iTok31, val_main_v30_apply,
    val_main_cst_1_apply, val_main_cst_2_apply]
  simp only [iRow30, v28_eq H]
  show Ideal.div (Ideal.ofBits .f32 0x00000000#32 + ∑ k : Fin 2304, A.h b s k * A.gam k) (Ideal.ofBits .f32 0x45100000#32) = _
  rw [Ideal.ofBits_zero_f32, zero_add, ofBits_2304, Ideal.div_coe (by norm_num : (2304 : ℝ) ≠ 0)]

/-- The second mean over the channels. -/
theorem v41_eq (b : Fin 2) (s : Fin 1024) (d : Fin 2304) : val_main_v41 (F := Ideal) x1 x2 x3 x4 x7 x8 r0 r1 (ix3 b s d)
    = (∑ k : Fin 2304, A.h b s k * A.gam k * A.n b s k) * ((1 / 2304 : ℝ) : EReal) := by
  rw [val_main_v41_apply, val_main_v40_apply, val_main_v38_apply, val_main_v39_apply, iTok38, val_main_v37_apply,
    val_main_cst_3_apply, val_main_cst_4_apply]
  simp only [iRow37, val_main_v36_apply, v28_eq H, v9_eq H]
  show Ideal.div (Ideal.ofBits .f32 0x00000000#32 + ∑ k : Fin 2304, A.h b s k * A.gam k * A.n b s k) (Ideal.ofBits .f32 0x45100000#32) = _
  rw [Ideal.ofBits_zero_f32, zero_add, ofBits_2304, Ideal.div_coe (by norm_num : (2304 : ℝ) ≠ 0)]

/-- The input gradient. -/
theorem v46_eq (b : Fin 2) (s : Fin 1024) (d : Fin 2304) : val_main_v46 (F := Ideal) x1 x2 x3 x4 x7 x8 r0 r1 (ix3 b s d) = A.dx b s d := by
  simp only [val_main_v46_apply, val_main_v45_apply, val_main_v44_apply, val_main_v43_apply, val_main_v42_apply, val_main_v35_apply,
    val_main_v29_apply, iTok29, v9_eq H, v28_eq H, v34_eq H, v41_eq H, H.rstd]
  rfl

/-- The weight gradient. -/
theorem v17_eq (d : Fin 2304) (k : Fin 4096) : val_main_v17 (F := Ideal) x1 x2 x3 x4 x5 x8 r0 (ix2 d k) = A.dW d k := by
  unfold val_main_v17
  rw [dotTok]
  simp only [v16_eq H, H.dq]
  rfl

/-- The scale gradient. -/
theorem v24_eq (d : Fin 2304) : val_main_v24 (F := Ideal) x1 x2 x3 x7 x8 r0 r1 (ix1 d) = A.dg d := by
  unfold val_main_v24
  rw [reduceTok _ _ Ideal.ofBits_zero_f32]
  simp only [val_main_v23_apply, v22_eq H, v9_eq H]
  rfl

/-- The shift gradient. -/
theorem v25_eq (d : Fin 2304) : val_main_v25 (F := Ideal) x7 x8 r1 (ix1 d) = A.db d := by
  unfold val_main_v25
  rw [reduceTok _ _ Ideal.ofBits_zero_f32]
  simp only [v22_eq H]
  rfl

end Cert.ReferenceIdeal.Math

end
-- ==== Proof.Value.RefRun.lean ====
/- The reference program's run, its four results stated as the same functions of the argument arrays. -/
module

public import proofs.«01_k».proof.Proof.Value.RefOps
public import proofs.«01_k».proof.Proof.Gen.ReferenceIdeal.Run
public import Idealize.ShloMosaic.Lib.Pipeline.ValueKit.Basic

@[expose] public section

set_option maxRecDepth 16384

noncomputable section

namespace Cert.ReferenceIdeal.Math

open Cert.ReferenceIdeal Cert.ReferenceIdeal.Gen Cert.ReferenceIdeal.Read Cert.ReferenceIdeal.Value
open Idealize.ShloMosaic Idealize.ShloMosaic.TcCoe Idealize.ShloMosaic.ValueIdx Idealize.ShloMosaic.StableHlo
open Cert.Spec

variable (m : (ℓ : Loc nD τ sig) → Buf (Elt Ideal) ℓ) (ρ : Dev nD → PrngReg)

/-- The nine argument arrays on core `c`. -/
def ins (c : Dev nD) : Ins where
  x b s d := m ((c : Thread nD τ).loc main_arg0) (ix3 b s d)
  xs b s := m ((c : Thread nD τ).loc main_arg1) (ix2 b s)
  rstd b s := m ((c : Thread nD τ).loc main_arg2) (ix2 b s)
  mean b s := m ((c : Thread nD τ).loc main_arg3) (ix2 b s)
  gam d := m ((c : Thread nD τ).loc main_arg4) (ix1 d)
  bet d := m ((c : Thread nD τ).loc main_arg5) (ix1 d)
  w d k := m ((c : Thread nD τ).loc main_arg6) (ix2 d k)
  ws k := m ((c : Thread nD τ).loc main_arg7) (ix1 k)
  dq b s k := m ((c : Thread nD τ).loc main_arg8) (ix3 b s k)

/-! ## The widened arrays -/

/-- The one point of the widening call. -/
abbrev pt : Fin cfg0.N := ⟨0, by decide⟩

theorem idx0_0 : ∀ t : Fin cfg0.N, ∀ a, win0_0.index t a = 0 := (by decide +kernel : ∀ t : Fin grid0.N, _)
theorem idx0_1 : ∀ t : Fin cfg0.N, ∀ a, win0_1.index t a = 0 := (by decide +kernel : ∀ t : Fin grid0.N, _)
theorem idx0_2 : ∀ t : Fin cfg0.N, ∀ a, win0_2.index t a = 0 := (by decide +kernel : ∀ t : Fin grid0.N, _)
theorem idx0_3 : ∀ t : Fin cfg0.N, ∀ a, win0_3.index t a = 0 := (by decide +kernel : ∀ t : Fin grid0.N, _)

theorem emb0 (t : Fin cfg0.N) (y : S2x1024x2304.Idx) : ((cfg0.win 0).blk t).view.emb y = y := funext fun a => Fin.ext (by
  show win0_0.index t a * S2x1024x2304.size a + 1 * (y a).val = (y a).val; rw [idx0_0 t a]; omega)
theorem emb1 (t : Fin cfg0.N) (y : S2304x4096.Idx) : ((cfg0.win 1).blk t).view.emb y = y := funext fun a => Fin.ext (by
  show win0_1.index t a * S2304x4096.size a + 1 * (y a).val = (y a).val; rw [idx0_1 t a]; omega)
theorem emb2 (t : Fin cfg0.N) (y : S2x1024x2304.Idx) : ((cfg0.win 2).blk t).view.emb y = y := funext fun a => Fin.ext (by
  show win0_2.index t a * S2x1024x2304.size a + 1 * (y a).val = (y a).val; rw [idx0_2 t a]; omega)
theorem emb3 (t : Fin cfg0.N) (y : S2304x4096.Idx) : ((cfg0.win 3).blk t).view.emb y = y := funext fun a => Fin.ext (by
  show win0_3.index t a * S2304x4096.size a + 1 * (y a).val = (y a).val; rw [idx0_3 t a]; omega)

/-- The input, widened: its values are unchanged. -/
def gx (c : Dev nD) : Buf (Elt Ideal) ((c : Thread nD τ).loc main_v0_0) := fun i : S2x1024x2304.Idx => m ((c : Thread nD τ).loc main_arg0) i
/-- The weights, widened: their values are unchanged. -/
def gw (c : Dev nD) : Buf (Elt Ideal) ((c : Thread nD τ).loc main_v0_1) := fun i : S2304x4096.Idx => m ((c : Thread nD τ).loc main_arg6) i

theorem flushed2 (c : Dev nD) (t : Fin cfg0.N) : (Gen.dats m 0 c).flushed 2 t = ((cfg0.win 2).blk t).view.read (Elt Ideal) (gx m c) := by
  show (cfg0.win 2).cut (grid0.coords t) ((Gen.dats m 0 c).after 2 t) = _
  rw [after0_2]
  unfold out0_2 k0_pay1
  rw [View.canon_cons_unit_lit _ _ _ (by decide), View.ld_unit_lit _ _ (by decide)]
  funext y
  show m ((c : Thread nD τ).loc main_arg0) (((cfg0.win 0).blk t).view.emb y) = gx m c (((cfg0.win 2).blk t).view.emb y)
  rw [emb0, emb2]; rfl

theorem flushed3 (c : Dev nD) (t : Fin cfg0.N) : (Gen.dats m 0 c).flushed 3 t = ((cfg0.win 3).blk t).view.read (Elt Ideal) (gw m c) := by
  show (cfg0.win 3).cut (grid0.coords t) ((Gen.dats m 0 c).after 3 t) = _
  rw [after0_3]
  unfold out0_3 k0_pay2
  rw [View.canon_cons_unit_lit _ _ _ (by decide), View.ld_unit_lit _ _ (by decide)]
  funext y
  show m ((c : Thread nD τ).loc main_arg6) (((cfg0.win 1).blk t).view.emb y) = gw m c (((cfg0.win 3).blk t).view.emb y)
  rw [emb1, emb3]; rfl

theorem reg0_eq (c : Dev nD) : reg_main_v0_0 m c = gx m c := by
  funext i
  refine (Gen.dats m 0 c).arrAt_apply_of_mem 2 (gx m c) (fun t _ => flushed2 m c t) cfg0.N pt i pt.isLt (flush0_2 pt) ?_
  have h := View.emb_mem_set ((cfg0.win 2).blk pt).view i
  rwa [emb2] at h

theorem reg1_eq (c : Dev nD) : reg_main_v0_1 m c = gw m c := by
  funext i
  refine (Gen.dats m 0 c).arrAt_apply_of_mem 3 (gw m c) (fun t _ => flushed3 m c t) cfg0.N pt i pt.isLt (flush0_3 pt) ?_
  have h := View.emb_mem_set ((cfg0.win 3).blk pt).view i
  rwa [emb3] at h

/-- The operands of the reference's operations hold the argument arrays. -/
theorem holds (c : Dev nD) : Holds (ins m c) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) (m ((c : Thread nD τ).loc main_arg8)) (reg_main_v0_0 m c) (reg_main_v0_1 m c) where
  xs _ _ := rfl
  rstd _ _ := rfl
  mean _ _ := rfl
  gam _ := rfl
  bet _ := rfl
  ws _ := rfl
  dq _ _ _ := rfl
  x _ _ _ := by rw [reg0_eq]; rfl
  w _ _ := by rw [reg1_eq]; rfl

/-! ## The run -/

/-- The reference's run: every execution terminates with the four results at the functions of `Ins`, the arguments unchanged. -/
theorem run :
    θ_run defs (onTc (τ := τ) (main (F := Ideal))) ⟨m, fun _ => 0, ρ⟩ fun r => ∀ c : Dev nD,
      r.2.mem ((c.tc : Thread nD τ).loc main_v46) = (fun i : S2x1024x2304.Idx => (ins m c).dx (i 0) (i 1) (i 2))
      ∧ r.2.mem ((c.tc : Thread nD τ).loc main_v17) = (fun i : S2304x4096.Idx => (ins m c).dW (i 0) (i 1))
      ∧ r.2.mem ((c.tc : Thread nD τ).loc main_v24) = (fun i : S2304.Idx => (ins m c).dg (i 0))
      ∧ r.2.mem ((c.tc : Thread nD τ).loc main_v25) = (fun i : S2304.Idx => (ins m c).db (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    refine ⟨(h c).1.trans ?_, (h c).2.1.trans ?_, (h c).2.2.1.trans ?_, (h c).2.2.2.1.trans ?_, (h c).2.2.2.2⟩
    · funext i
      rw [eq_ix3 (n0 := 2) (n1 := 1024) (n2 := 2304) i]
      exact v46_eq (holds m c) _ _ _
    · funext i
      rw [eq_ix2 (n0 := 2304) (n1 := 4096) i]
      exact v17_eq (holds m c) _ _
    · funext i
      rw [eq_ix1 (n := 2304) i]
      exact v24_eq (holds m c) _
    · funext i
      rw [eq_ix1 (n := 2304) i]
      exact v25_eq (holds m c) _) (Value.run m ρ)

end Cert.ReferenceIdeal.Math

end
-- ==== Proof.Value.Equation.lean ====
/- The equation: from the same arguments the kernel and the reference end with the same four results. -/
module

public import proofs.«01_k».proof.Defs
public import proofs.«01_k».proof.Proof.Value.Arrays
public import proofs.«01_k».proof.Proof.Value.RefRun

@[expose] public section

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Cert.Spec

/-- The kernel's run: every execution terminates with the four results at the functions of `Ins`, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7) = (fun i : S2x1024x2304.Idx => (ins m c).dx (i 0) (i 1) (i 2))
      ∧ r.2.mem ((c.tc : Thread nD τ).loc main_v6) = (fun i : S2304x4096.Idx => (ins m c).dW (i 0) (i 1))
      ∧ r.2.mem ((c.tc : Thread nD τ).loc main_v8) = (fun i : S2304.Idx => (ins m c).dg (i 0))
      ∧ r.2.mem ((c.tc : Thread nD τ).loc main_v9) = (fun i : S2304.Idx => (ins m c).db (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    have hr : ∀ a ∈ argRefs, ¬ (Proc.devRef .tc a : DevRef τ sig).isScoped →
        r.2.mem ((c.tc : Thread nD τ).loc a) = m ((c.tc : Thread nD τ).loc a) :=
      fun a ha hs => (h.1 c _ (mem_uc a hs)).trans (W4_args m ρ c a ha)
    exact ⟨(h.1 c _ (mem_uc main_v7 (by decide))).trans (res_dx m ρ c), (h.1 c _ (mem_uc main_v6 (by decide))).trans (res_dW m ρ c),
      (h.1 c _ (mem_uc main_v8 (by decide))).trans (res_dg m ρ c), (h.1 c _ (mem_uc main_v9 (by decide))).trans (res_db m ρ c),
      hr main_arg0 (by decide) (by decide), hr main_arg1 (by decide) (by decide), hr main_arg2 (by decide) (by decide),
      hr main_arg3 (by decide) (by decide), hr main_arg4 (by decide) (by decide), hr main_arg5 (by decide) (by decide),
      hr main_arg6 (by decide) (by decide), hr main_arg7 (by decide) (by decide), hr main_arg8 (by decide) (by decide)⟩) (run_all m ρ)

end Cert.KernelIdeal.Whole

namespace Cert.Equation

open Idealize.ShloMosaic Idealize.ShloMosaic.TcCoe Idealize.SL.Sem

/-- The claim about values: the kernel's four results are the reference's. -/
theorem algebraic [hK : Cert.KernelIdeal.Facts] [hR : Cert.ReferenceIdeal.Facts] : Cert.algebraic_KernelIdeal_ReferenceIdeal := by
  intro m g m' g' _ ha
  have e : ∀ c, Cert.ReferenceIdeal.Math.ins m' c = Cert.KernelIdeal.Whole.ins m c := fun c => by
    obtain ⟨h0, h1, h2, h3, h4, h5, h6, h7, h8⟩ := ha c
    unfold Cert.ReferenceIdeal.Math.ins Cert.KernelIdeal.Whole.ins
    congr 1
    · funext b s d; exact congrFun h0 _
    · funext b s; exact congrFun h1 _
    · funext b s; exact congrFun h2 _
    · funext b s; exact congrFun h3 _
    · funext d; exact congrFun h4 _
    · funext d; exact congrFun h5 _
    · funext d k; exact congrFun h6 _
    · funext k; exact congrFun h7 _
    · funext b s k; exact congrFun h8 _
  refine ⟨_, _, _, _, Cert.KernelIdeal.Whole.run m g, ?_⟩
  refine (θ_run _ _ _).mono (fun r h c => ?_) (Cert.ReferenceIdeal.Math.run m' g')
  have hc := h c
  rw [e c] at hc
  exact hc

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Kern.Run
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Kern.RunIdeal
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  fun m ρ _ => Cert.Kernel.Whole.frame m ρ,
  fun m ρ _ => Cert.KernelIdeal.Whole.frame m ρ,
  fun m ρ _ => Cert.ReferenceIdeal.Gen.frame m ρ,
  IdealRules.named_const.statement Cert.KernelIdeal.κ "inv_d" .f32 0x39E38E39#32 ((1 / 2304 : ℝ) : EReal) rfl,
  Cert.Equation.algebraic⟩

end Cert.Proof

end
